-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Moe [hPre_routed : Cert.Pre_routed.Facts] (m : (ℓ : Loc Cert.Moe.nD Cert.Moe.τ Cert.Moe.sig) → Buf (Elt Bits) ℓ) : Prop :=
  ∀ c : Dev Cert.Moe.nD,
    (Cert.Pre_routed.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).1 = (fun _ => 1#1)
    ∧ (Cert.Pre_routed.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2 = (fun _ => 1#1)

def Pre_MoeIdeal [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routed [hPre_routed : Cert.Pre_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).1 = (fun _ => 1#1)
    ∧ (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormO (m : (ℓ : Loc Cert.NormO.nD Cert.NormO.τ Cert.NormO.sig) → Buf (Elt Bits) ℓ) : Prop :=
  True

def Pre_NormOIdeal (m : (ℓ : Loc Cert.NormOIdeal.nD Cert.NormOIdeal.τ Cert.NormOIdeal.sig) → Buf (Elt Ideal) ℓ) : Prop :=
  True

def Pre_NormORefIdeal (m : (ℓ : Loc Cert.NormORefIdeal.nD Cert.NormORefIdeal.τ Cert.NormORefIdeal.sig) → Buf (Elt Ideal) ℓ) : Prop :=
  True

def Pre_ProjE (m : (ℓ : Loc Cert.ProjE.nD Cert.ProjE.τ Cert.ProjE.sig) → Buf (Elt Bits) ℓ) : Prop :=
  True

def Pre_ProjEIdeal (m : (ℓ : Loc Cert.ProjEIdeal.nD Cert.ProjEIdeal.τ Cert.ProjEIdeal.sig) → Buf (Elt Ideal) ℓ) : Prop :=
  True

def Pre_ProjERefIdeal (m : (ℓ : Loc Cert.ProjERefIdeal.nD Cert.ProjERefIdeal.τ Cert.ProjERefIdeal.sig) → Buf (Elt Ideal) ℓ) : Prop :=
  True

def Pre_ProjO (m : (ℓ : Loc Cert.ProjO.nD Cert.ProjO.τ Cert.ProjO.sig) → Buf (Elt Bits) ℓ) : Prop :=
  True

def Pre_ProjOIdeal (m : (ℓ : Loc Cert.ProjOIdeal.nD Cert.ProjOIdeal.τ Cert.ProjOIdeal.sig) → Buf (Elt Ideal) ℓ) : Prop :=
  True

def Pre_ProjORefIdeal (m : (ℓ : Loc Cert.ProjORefIdeal.nD Cert.ProjORefIdeal.τ Cert.ProjORefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Moe [hMoe : Cert.Moe.Facts] [hPre_routed : Cert.Pre_routed.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_routed [hMoeRefIdeal : Cert.MoeRefIdeal.Facts] [hPre_routed : Cert.Pre_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormO [hNormO : Cert.NormO.Facts] : Prop :=
  ∀ (m : (ℓ : Loc Cert.NormO.nD Cert.NormO.τ Cert.NormO.sig) → Buf (Elt Bits) ℓ) (g : Dev Cert.NormO.nD → PrngReg), Pre_NormO m →
    θ_run (Cert.NormO.defs (F := Bits)) (onTc (τ := Cert.NormO.τ) (Cert.NormO.main (F := Bits))) ⟨m, fun _ => 0, g⟩ (fun r => (∀ c : Dev Cert.NormO.nD,
      r.2.mem ((c.tc : Thread Cert.NormO.nD Cert.NormO.τ).loc Cert.NormO.main_arg0) = m ((c.tc : Thread Cert.NormO.nD Cert.NormO.τ).loc Cert.NormO.main_arg0)
      ∧ r.2.mem ((c.tc : Thread Cert.NormO.nD Cert.NormO.τ).loc Cert.NormO.main_arg1) = m ((c.tc : Thread Cert.NormO.nD Cert.NormO.τ).loc Cert.NormO.main_arg1)
      ∧ r.2.mem ((c.tc : Thread Cert.NormO.nD Cert.NormO.τ).loc Cert.NormO.main_arg2) = m ((c.tc : Thread Cert.NormO.nD Cert.NormO.τ).loc Cert.NormO.main_arg2))
      ∧ r.2.sem = fun _ => 0)

def quiescent_NormOIdeal [hNormOIdeal : Cert.NormOIdeal.Facts] : Prop :=
  ∀ (m : (ℓ : Loc Cert.NormOIdeal.nD Cert.NormOIdeal.τ Cert.NormOIdeal.sig) → Buf (Elt Ideal) ℓ) (g : Dev Cert.NormOIdeal.nD → PrngReg), Pre_NormOIdeal m →
    θ_run (Cert.NormOIdeal.defs (F := Ideal)) (onTc (τ := Cert.NormOIdeal.τ) (Cert.NormOIdeal.main (F := Ideal))) ⟨m, fun _ => 0, g⟩ (fun r => (∀ c : Dev Cert.NormOIdeal.nD,
      r.2.mem ((c.tc : Thread Cert.NormOIdeal.nD Cert.NormOIdeal.τ).loc Cert.NormOIdeal.main_arg0) = m ((c.tc : Thread Cert.NormOIdeal.nD Cert.NormOIdeal.τ).loc Cert.NormOIdeal.main_arg0)
      ∧ r.2.mem ((c.tc : Thread Cert.NormOIdeal.nD Cert.NormOIdeal.τ).loc Cert.NormOIdeal.main_arg1) = m ((c.tc : Thread Cert.NormOIdeal.nD Cert.NormOIdeal.τ).loc Cert.NormOIdeal.main_arg1)
      ∧ r.2.mem ((c.tc : Thread Cert.NormOIdeal.nD Cert.NormOIdeal.τ).loc Cert.NormOIdeal.main_arg2) = m ((c.tc : Thread Cert.NormOIdeal.nD Cert.NormOIdeal.τ).loc Cert.NormOIdeal.main_arg2))
      ∧ r.2.sem = fun _ => 0)

def quiescent_NormORefIdeal [hNormORefIdeal : Cert.NormORefIdeal.Facts] : Prop :=
  ∀ (m : (ℓ : Loc Cert.NormORefIdeal.nD Cert.NormORefIdeal.τ Cert.NormORefIdeal.sig) → Buf (Elt Ideal) ℓ) (g : Dev Cert.NormORefIdeal.nD → PrngReg), Pre_NormORefIdeal m →
    θ_run (Cert.NormORefIdeal.defs (F := Ideal)) (onTc (τ := Cert.NormORefIdeal.τ) (Cert.NormORefIdeal.main (F := Ideal))) ⟨m, fun _ => 0, g⟩ (fun r => (∀ c : Dev Cert.NormORefIdeal.nD,
      r.2.mem ((c.tc : Thread Cert.NormORefIdeal.nD Cert.NormORefIdeal.τ).loc Cert.NormORefIdeal.main_arg0) = m ((c.tc : Thread Cert.NormORefIdeal.nD Cert.NormORefIdeal.τ).loc Cert.NormORefIdeal.main_arg0)
      ∧ r.2.mem ((c.tc : Thread Cert.NormORefIdeal.nD Cert.NormORefIdeal.τ).loc Cert.NormORefIdeal.main_arg1) = m ((c.tc : Thread Cert.NormORefIdeal.nD Cert.NormORefIdeal.τ).loc Cert.NormORefIdeal.main_arg1)
      ∧ r.2.mem ((c.tc : Thread Cert.NormORefIdeal.nD Cert.NormORefIdeal.τ).loc Cert.NormORefIdeal.main_arg2) = m ((c.tc : Thread Cert.NormORefIdeal.nD Cert.NormORefIdeal.τ).loc Cert.NormORefIdeal.main_arg2))
      ∧ r.2.sem = fun _ => 0)

def quiescent_ProjE [hProjE : Cert.ProjE.Facts] : Prop :=
  ∀ (m : (ℓ : Loc Cert.ProjE.nD Cert.ProjE.τ Cert.ProjE.sig) → Buf (Elt Bits) ℓ) (g : Dev Cert.ProjE.nD → PrngReg), Pre_ProjE m →
    θ_run (Cert.ProjE.defs (F := Bits)) (onTc (τ := Cert.ProjE.τ) (Cert.ProjE.main (F := Bits))) ⟨m, fun _ => 0, g⟩ (fun r => (∀ c : Dev Cert.ProjE.nD,
      r.2.mem ((c.tc : Thread Cert.ProjE.nD Cert.ProjE.τ).loc Cert.ProjE.main_arg0) = m ((c.tc : Thread Cert.ProjE.nD Cert.ProjE.τ).loc Cert.ProjE.main_arg0)
      ∧ r.2.mem ((c.tc : Thread Cert.ProjE.nD Cert.ProjE.τ).loc Cert.ProjE.main_arg1) = m ((c.tc : Thread Cert.ProjE.nD Cert.ProjE.τ).loc Cert.ProjE.main_arg1)
      ∧ r.2.mem ((c.tc : Thread Cert.ProjE.nD Cert.ProjE.τ).loc Cert.ProjE.main_arg2) = m ((c.tc : Thread Cert.ProjE.nD Cert.ProjE.τ).loc Cert.ProjE.main_arg2)
      ∧ r.2.mem ((c.tc : Thread Cert.ProjE.nD Cert.ProjE.τ).loc Cert.ProjE.main_arg3) = m ((c.tc : Thread Cert.ProjE.nD Cert.ProjE.τ).loc Cert.ProjE.main_arg3))
      ∧ r.2.sem = fun _ => 0)

def quiescent_ProjEIdeal [hProjEIdeal : Cert.ProjEIdeal.Facts] : Prop :=
  ∀ (m : (ℓ : Loc Cert.ProjEIdeal.nD Cert.ProjEIdeal.τ Cert.ProjEIdeal.sig) → Buf (Elt Ideal) ℓ) (g : Dev Cert.ProjEIdeal.nD → PrngReg), Pre_ProjEIdeal m →
    θ_run (Cert.ProjEIdeal.defs (F := Ideal)) (onTc (τ := Cert.ProjEIdeal.τ) (Cert.ProjEIdeal.main (F := Ideal))) ⟨m, fun _ => 0, g⟩ (fun r => (∀ c : Dev Cert.ProjEIdeal.nD,
      r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
      ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1)
      ∧ r.2.mem ((c.tc : Thread Cert.ProjEIdeal.nD Cert.ProjEIdeal.τ).loc Cert.ProjEIdeal.main_arg2) = m ((c.tc : Thread Cert.ProjEIdeal.nD Cert.ProjEIdeal.τ).loc Cert.ProjEIdeal.main_arg2)
      ∧ r.2.mem ((c.tc : Thread Cert.ProjEIdeal.nD Cert.ProjEIdeal.τ).loc Cert.ProjEIdeal.main_arg3) = m ((c.tc : Thread Cert.ProjEIdeal.nD Cert.ProjEIdeal.τ).loc Cert.ProjEIdeal.main_arg3))
      ∧ r.2.sem = fun _ => 0)

def quiescent_ProjERefIdeal [hProjERefIdeal : Cert.ProjERefIdeal.Facts] : Prop :=
  ∀ (m : (ℓ : Loc Cert.ProjERefIdeal.nD Cert.ProjERefIdeal.τ Cert.ProjERefIdeal.sig) → Buf (Elt Ideal) ℓ) (g : Dev Cert.ProjERefIdeal.nD → PrngReg), Pre_ProjERefIdeal m →
    θ_run (Cert.ProjERefIdeal.defs (F := Ideal)) (onTc (τ := Cert.ProjERefIdeal.τ) (Cert.ProjERefIdeal.main (F := Ideal))) ⟨m, fun _ => 0, g⟩ (fun r => (∀ c : Dev Cert.ProjERefIdeal.nD,
      r.2.mem ((c.tc : Thread Cert.ProjERefIdeal.nD Cert.ProjERefIdeal.τ).loc Cert.ProjERefIdeal.main_arg0) = m ((c.tc : Thread Cert.ProjERefIdeal.nD Cert.ProjERefIdeal.τ).loc Cert.ProjERefIdeal.main_arg0)
      ∧ r.2.mem ((c.tc : Thread Cert.ProjERefIdeal.nD Cert.ProjERefIdeal.τ).loc Cert.ProjERefIdeal.main_arg1) = m ((c.tc : Thread Cert.ProjERefIdeal.nD Cert.ProjERefIdeal.τ).loc Cert.ProjERefIdeal.main_arg1)
      ∧ r.2.mem ((c.tc : Thread Cert.ProjERefIdeal.nD Cert.ProjERefIdeal.τ).loc Cert.ProjERefIdeal.main_arg2) = m ((c.tc : Thread Cert.ProjERefIdeal.nD Cert.ProjERefIdeal.τ).loc Cert.ProjERefIdeal.main_arg2)
      ∧ r.2.mem ((c.tc : Thread Cert.ProjERefIdeal.nD Cert.ProjERefIdeal.τ).loc Cert.ProjERefIdeal.main_arg3) = m ((c.tc : Thread Cert.ProjERefIdeal.nD Cert.ProjERefIdeal.τ).loc Cert.ProjERefIdeal.main_arg3))
      ∧ r.2.sem = fun _ => 0)

def quiescent_ProjO [hProjO : Cert.ProjO.Facts] : Prop :=
  ∀ (m : (ℓ : Loc Cert.ProjO.nD Cert.ProjO.τ Cert.ProjO.sig) → Buf (Elt Bits) ℓ) (g : Dev Cert.ProjO.nD → PrngReg), Pre_ProjO m →
    θ_run (Cert.ProjO.defs (F := Bits)) (onTc (τ := Cert.ProjO.τ) (Cert.ProjO.main (F := Bits))) ⟨m, fun _ => 0, g⟩ (fun r => (∀ c : Dev Cert.ProjO.nD,
      r.2.mem ((c.tc : Thread Cert.ProjO.nD Cert.ProjO.τ).loc Cert.ProjO.main_arg0) = m ((c.tc : Thread Cert.ProjO.nD Cert.ProjO.τ).loc Cert.ProjO.main_arg0)
      ∧ r.2.mem ((c.tc : Thread Cert.ProjO.nD Cert.ProjO.τ).loc Cert.ProjO.main_arg1) = m ((c.tc : Thread Cert.ProjO.nD Cert.ProjO.τ).loc Cert.ProjO.main_arg1)
      ∧ r.2.mem ((c.tc : Thread Cert.ProjO.nD Cert.ProjO.τ).loc Cert.ProjO.main_arg2) = m ((c.tc : Thread Cert.ProjO.nD Cert.ProjO.τ).loc Cert.ProjO.main_arg2))
      ∧ r.2.sem = fun _ => 0)

def quiescent_ProjOIdeal [hProjOIdeal : Cert.ProjOIdeal.Facts] : Prop :=
  ∀ (m : (ℓ : Loc Cert.ProjOIdeal.nD Cert.ProjOIdeal.τ Cert.ProjOIdeal.sig) → Buf (Elt Ideal) ℓ) (g : Dev Cert.ProjOIdeal.nD → PrngReg), Pre_ProjOIdeal m →
    θ_run (Cert.ProjOIdeal.defs (F := Ideal)) (onTc (τ := Cert.ProjOIdeal.τ) (Cert.ProjOIdeal.main (F := Ideal))) ⟨m, fun _ => 0, g⟩ (fun r => (∀ c : Dev Cert.ProjOIdeal.nD,
      r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
      ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
      ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2))
      ∧ r.2.sem = fun _ => 0)

def quiescent_ProjORefIdeal [hProjORefIdeal : Cert.ProjORefIdeal.Facts] : Prop :=
  ∀ (m : (ℓ : Loc Cert.ProjORefIdeal.nD Cert.ProjORefIdeal.τ Cert.ProjORefIdeal.sig) → Buf (Elt Ideal) ℓ) (g : Dev Cert.ProjORefIdeal.nD → PrngReg), Pre_ProjORefIdeal m →
    θ_run (Cert.ProjORefIdeal.defs (F := Ideal)) (onTc (τ := Cert.ProjORefIdeal.τ) (Cert.ProjORefIdeal.main (F := Ideal))) ⟨m, fun _ => 0, g⟩ (fun r => (∀ c : Dev Cert.ProjORefIdeal.nD,
      r.2.mem ((c.tc : Thread Cert.ProjORefIdeal.nD Cert.ProjORefIdeal.τ).loc Cert.ProjORefIdeal.main_arg0) = m ((c.tc : Thread Cert.ProjORefIdeal.nD Cert.ProjORefIdeal.τ).loc Cert.ProjORefIdeal.main_arg0)
      ∧ r.2.mem ((c.tc : Thread Cert.ProjORefIdeal.nD Cert.ProjORefIdeal.τ).loc Cert.ProjORefIdeal.main_arg1) = m ((c.tc : Thread Cert.ProjORefIdeal.nD Cert.ProjORefIdeal.τ).loc Cert.ProjORefIdeal.main_arg1)
      ∧ r.2.mem ((c.tc : Thread Cert.ProjORefIdeal.nD Cert.ProjORefIdeal.τ).loc Cert.ProjORefIdeal.main_arg2) = m ((c.tc : Thread Cert.ProjORefIdeal.nD Cert.ProjORefIdeal.τ).loc Cert.ProjORefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Moe_MoeIdeal : Prop :=
  True

def algebraic_MoeIdeal_MoeRefIdeal_on_used_rows [hMoeIdeal : Cert.MoeIdeal.Facts] [hMoeRefIdeal : Cert.MoeRefIdeal.Facts] [hPre_routed : Cert.Pre_routed.Facts] [hOn_used_rows : Cert.On_used_rows.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![36864, 2048]⟩ : Shape).Idx, (Cert.On_used_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) i = 1#1 → r.2.mem ((c.tc : Thread Cert.MoeIdeal.nD Cert.MoeIdeal.τ).loc Cert.MoeIdeal.main_v0) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          (∀ i : (⟨2, ![36864, 2048]⟩ : Shape).Idx, (Cert.On_used_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) i = 1#1 → r.2.mem ((c.tc : Thread Cert.MoeRefIdeal.nD Cert.MoeRefIdeal.τ).loc Cert.MoeRefIdeal.main_v162) i = v0 c i)
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v14_0)) (v1 : (c : Dev Cert.NormIdeal.nD) → Buf (Elt Ideal) ((c.tc : Thread Cert.NormIdeal.nD Cert.NormIdeal.τ).loc Cert.NormIdeal.main_v14_1)) (v2 : (c : Dev Cert.NormIdeal.nD) → Buf (Elt Ideal) ((c.tc : Thread Cert.NormIdeal.nD Cert.NormIdeal.τ).loc Cert.NormIdeal.main_v14_2)) (v3 : (c : Dev Cert.NormIdeal.nD) → Buf (Elt Ideal) ((c.tc : Thread Cert.NormIdeal.nD Cert.NormIdeal.τ).loc Cert.NormIdeal.main_v14_3)) (v4 : (c : Dev Cert.NormIdeal.nD) → Buf (Elt Ideal) ((c.tc : Thread Cert.NormIdeal.nD Cert.NormIdeal.τ).loc Cert.NormIdeal.main_v14_4)) (v5 : (c : Dev Cert.NormIdeal.nD) → Buf (Elt Ideal) ((c.tc : Thread Cert.NormIdeal.nD Cert.NormIdeal.τ).loc Cert.NormIdeal.main_v14_5)) (v6 : (c : Dev Cert.NormIdeal.nD) → Buf (Elt Ideal) ((c.tc : Thread Cert.NormIdeal.nD Cert.NormIdeal.τ).loc Cert.NormIdeal.main_v14_6)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v14_0) = v0 c
          ∧ r.2.mem ((c.tc : Thread Cert.NormIdeal.nD Cert.NormIdeal.τ).loc Cert.NormIdeal.main_v14_1) = v1 c
          ∧ r.2.mem ((c.tc : Thread Cert.NormIdeal.nD Cert.NormIdeal.τ).loc Cert.NormIdeal.main_v14_2) = v2 c
          ∧ r.2.mem ((c.tc : Thread Cert.NormIdeal.nD Cert.NormIdeal.τ).loc Cert.NormIdeal.main_v14_3) = v3 c
          ∧ r.2.mem ((c.tc : Thread Cert.NormIdeal.nD Cert.NormIdeal.τ).loc Cert.NormIdeal.main_v14_4) = v4 c
          ∧ r.2.mem ((c.tc : Thread Cert.NormIdeal.nD Cert.NormIdeal.τ).loc Cert.NormIdeal.main_v14_5) = v5 c
          ∧ r.2.mem ((c.tc : Thread Cert.NormIdeal.nD Cert.NormIdeal.τ).loc Cert.NormIdeal.main_v14_6) = v6 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v25) = v0 c
          ∧ r.2.mem ((c.tc : Thread Cert.NormRefIdeal.nD Cert.NormRefIdeal.τ).loc Cert.NormRefIdeal.main_v19) = v1 c
          ∧ r.2.mem ((c.tc : Thread Cert.NormRefIdeal.nD Cert.NormRefIdeal.τ).loc Cert.NormRefIdeal.main_v20) = v2 c
          ∧ r.2.mem ((c.tc : Thread Cert.NormRefIdeal.nD Cert.NormRefIdeal.τ).loc Cert.NormRefIdeal.main_v26) = v3 c
          ∧ r.2.mem ((c.tc : Thread Cert.NormRefIdeal.nD Cert.NormRefIdeal.τ).loc Cert.NormRefIdeal.main_v23) = v4 c
          ∧ r.2.mem ((c.tc : Thread Cert.NormRefIdeal.nD Cert.NormRefIdeal.τ).loc Cert.NormRefIdeal.main_v24) = v5 c
          ∧ r.2.mem ((c.tc : Thread Cert.NormRefIdeal.nD Cert.NormRefIdeal.τ).loc Cert.NormRefIdeal.main_v30) = v6 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_NormO_NormOIdeal : Prop :=
  True

def algebraic_NormOIdeal_NormORefIdeal [hNormOIdeal : Cert.NormOIdeal.Facts] [hNormORefIdeal : Cert.NormORefIdeal.Facts] : Prop :=
  ∀ (m : (ℓ : Loc Cert.NormOIdeal.nD Cert.NormOIdeal.τ Cert.NormOIdeal.sig) → Buf (Elt Ideal) ℓ) (g : Dev Cert.NormOIdeal.nD → PrngReg)
    (m' : (ℓ : Loc Cert.NormORefIdeal.nD Cert.NormORefIdeal.τ Cert.NormORefIdeal.sig) → Buf (Elt Ideal) ℓ) (g' : Dev Cert.NormORefIdeal.nD → PrngReg), Pre_NormOIdeal m →
    (∀ c : Dev Cert.NormOIdeal.nD,
      m' ((c.tc : Thread Cert.NormORefIdeal.nD Cert.NormORefIdeal.τ).loc Cert.NormORefIdeal.main_arg0) = m ((c.tc : Thread Cert.NormOIdeal.nD Cert.NormOIdeal.τ).loc Cert.NormOIdeal.main_arg0)
      ∧ m' ((c.tc : Thread Cert.NormORefIdeal.nD Cert.NormORefIdeal.τ).loc Cert.NormORefIdeal.main_arg1) = m ((c.tc : Thread Cert.NormOIdeal.nD Cert.NormOIdeal.τ).loc Cert.NormOIdeal.main_arg1)
      ∧ m' ((c.tc : Thread Cert.NormORefIdeal.nD Cert.NormORefIdeal.τ).loc Cert.NormORefIdeal.main_arg2) = m ((c.tc : Thread Cert.NormOIdeal.nD Cert.NormOIdeal.τ).loc Cert.NormOIdeal.main_arg2)) →
    ∃ (v0 : (c : Dev Cert.NormOIdeal.nD) → Buf (Elt Ideal) ((c.tc : Thread Cert.NormOIdeal.nD Cert.NormOIdeal.τ).loc Cert.NormOIdeal.main_v4_0)) (v1 : (c : Dev Cert.NormOIdeal.nD) → Buf (Elt Ideal) ((c.tc : Thread Cert.NormOIdeal.nD Cert.NormOIdeal.τ).loc Cert.NormOIdeal.main_v4_1)) (v2 : (c : Dev Cert.NormOIdeal.nD) → Buf (Elt Ideal) ((c.tc : Thread Cert.NormOIdeal.nD Cert.NormOIdeal.τ).loc Cert.NormOIdeal.main_v4_2)),
      θ_run (Cert.NormOIdeal.defs (F := Ideal)) (onTc (τ := Cert.NormOIdeal.τ) (Cert.NormOIdeal.main (F := Ideal))) ⟨m, fun _ => 0, g⟩ (fun r => ∀ c : Dev Cert.NormOIdeal.nD,
          r.2.mem ((c.tc : Thread Cert.NormOIdeal.nD Cert.NormOIdeal.τ).loc Cert.NormOIdeal.main_v4_0) = v0 c
          ∧ r.2.mem ((c.tc : Thread Cert.NormOIdeal.nD Cert.NormOIdeal.τ).loc Cert.NormOIdeal.main_v4_1) = v1 c
          ∧ r.2.mem ((c.tc : Thread Cert.NormOIdeal.nD Cert.NormOIdeal.τ).loc Cert.NormOIdeal.main_v4_2) = v2 c
          ∧ r.2.mem ((c.tc : Thread Cert.NormOIdeal.nD Cert.NormOIdeal.τ).loc Cert.NormOIdeal.main_arg0) = m ((c.tc : Thread Cert.NormOIdeal.nD Cert.NormOIdeal.τ).loc Cert.NormOIdeal.main_arg0)
          ∧ r.2.mem ((c.tc : Thread Cert.NormOIdeal.nD Cert.NormOIdeal.τ).loc Cert.NormOIdeal.main_arg1) = m ((c.tc : Thread Cert.NormOIdeal.nD Cert.NormOIdeal.τ).loc Cert.NormOIdeal.main_arg1)
          ∧ r.2.mem ((c.tc : Thread Cert.NormOIdeal.nD Cert.NormOIdeal.τ).loc Cert.NormOIdeal.main_arg2) = m ((c.tc : Thread Cert.NormOIdeal.nD Cert.NormOIdeal.τ).loc Cert.NormOIdeal.main_arg2))
      ∧ θ_run (Cert.NormORefIdeal.defs (F := Ideal)) (onTc (τ := Cert.NormORefIdeal.τ) (Cert.NormORefIdeal.main (F := Ideal))) ⟨m', fun _ => 0, g'⟩ (fun r => ∀ c : Dev Cert.NormORefIdeal.nD,
          r.2.mem ((c.tc : Thread Cert.NormORefIdeal.nD Cert.NormORefIdeal.τ).loc Cert.NormORefIdeal.main_v19) = v0 c
          ∧ r.2.mem ((c.tc : Thread Cert.NormORefIdeal.nD Cert.NormORefIdeal.τ).loc Cert.NormORefIdeal.main_v17) = v1 c
          ∧ r.2.mem ((c.tc : Thread Cert.NormORefIdeal.nD Cert.NormORefIdeal.τ).loc Cert.NormORefIdeal.main_v18) = v2 c
          ∧ r.2.mem ((c.tc : Thread Cert.NormORefIdeal.nD Cert.NormORefIdeal.τ).loc Cert.NormORefIdeal.main_arg0) = m' ((c.tc : Thread Cert.NormORefIdeal.nD Cert.NormORefIdeal.τ).loc Cert.NormORefIdeal.main_arg0)
          ∧ r.2.mem ((c.tc : Thread Cert.NormORefIdeal.nD Cert.NormORefIdeal.τ).loc Cert.NormORefIdeal.main_arg1) = m' ((c.tc : Thread Cert.NormORefIdeal.nD Cert.NormORefIdeal.τ).loc Cert.NormORefIdeal.main_arg1)
          ∧ r.2.mem ((c.tc : Thread Cert.NormORefIdeal.nD Cert.NormORefIdeal.τ).loc Cert.NormORefIdeal.main_arg2) = m' ((c.tc : Thread Cert.NormORefIdeal.nD Cert.NormORefIdeal.τ).loc Cert.NormORefIdeal.main_arg2))

def preserves_ProjE_ProjEIdeal : Prop :=
  True

def algebraic_ProjEIdeal_ProjERefIdeal [hProjEIdeal : Cert.ProjEIdeal.Facts] [hProjERefIdeal : Cert.ProjERefIdeal.Facts] : Prop :=
  ∀ (m : (ℓ : Loc Cert.ProjEIdeal.nD Cert.ProjEIdeal.τ Cert.ProjEIdeal.sig) → Buf (Elt Ideal) ℓ) (g : Dev Cert.ProjEIdeal.nD → PrngReg)
    (m' : (ℓ : Loc Cert.ProjERefIdeal.nD Cert.ProjERefIdeal.τ Cert.ProjERefIdeal.sig) → Buf (Elt Ideal) ℓ) (g' : Dev Cert.ProjERefIdeal.nD → PrngReg), Pre_ProjEIdeal m →
    (∀ c : Dev Cert.ProjEIdeal.nD,
      m' ((c.tc : Thread Cert.ProjERefIdeal.nD Cert.ProjERefIdeal.τ).loc Cert.ProjERefIdeal.main_arg0) = m ((c.tc : Thread Cert.ProjEIdeal.nD Cert.ProjEIdeal.τ).loc Cert.ProjEIdeal.main_arg0)
      ∧ m' ((c.tc : Thread Cert.ProjERefIdeal.nD Cert.ProjERefIdeal.τ).loc Cert.ProjERefIdeal.main_arg1) = m ((c.tc : Thread Cert.ProjEIdeal.nD Cert.ProjEIdeal.τ).loc Cert.ProjEIdeal.main_arg1)
      ∧ m' ((c.tc : Thread Cert.ProjERefIdeal.nD Cert.ProjERefIdeal.τ).loc Cert.ProjERefIdeal.main_arg2) = m ((c.tc : Thread Cert.ProjEIdeal.nD Cert.ProjEIdeal.τ).loc Cert.ProjEIdeal.main_arg2)
      ∧ m' ((c.tc : Thread Cert.ProjERefIdeal.nD Cert.ProjERefIdeal.τ).loc Cert.ProjERefIdeal.main_arg3) = m ((c.tc : Thread Cert.ProjEIdeal.nD Cert.ProjEIdeal.τ).loc Cert.ProjEIdeal.main_arg3)) →
    ∃ (v0 : (c : Dev Cert.ProjEIdeal.nD) → Buf (Elt Ideal) ((c.tc : Thread Cert.ProjEIdeal.nD Cert.ProjEIdeal.τ).loc Cert.ProjEIdeal.main_v4)),
      θ_run (Cert.ProjEIdeal.defs (F := Ideal)) (onTc (τ := Cert.ProjEIdeal.τ) (Cert.ProjEIdeal.main (F := Ideal))) ⟨m, fun _ => 0, g⟩ (fun r => ∀ c : Dev Cert.ProjEIdeal.nD,
          r.2.mem ((c.tc : Thread Cert.ProjEIdeal.nD Cert.ProjEIdeal.τ).loc Cert.ProjEIdeal.main_v4) = v0 c
          ∧ r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
          ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1)
          ∧ r.2.mem ((c.tc : Thread Cert.ProjEIdeal.nD Cert.ProjEIdeal.τ).loc Cert.ProjEIdeal.main_arg2) = m ((c.tc : Thread Cert.ProjEIdeal.nD Cert.ProjEIdeal.τ).loc Cert.ProjEIdeal.main_arg2)
          ∧ r.2.mem ((c.tc : Thread Cert.ProjEIdeal.nD Cert.ProjEIdeal.τ).loc Cert.ProjEIdeal.main_arg3) = m ((c.tc : Thread Cert.ProjEIdeal.nD Cert.ProjEIdeal.τ).loc Cert.ProjEIdeal.main_arg3))
      ∧ θ_run (Cert.ProjERefIdeal.defs (F := Ideal)) (onTc (τ := Cert.ProjERefIdeal.τ) (Cert.ProjERefIdeal.main (F := Ideal))) ⟨m', fun _ => 0, g'⟩ (fun r => ∀ c : Dev Cert.ProjERefIdeal.nD,
          r.2.mem ((c.tc : Thread Cert.ProjERefIdeal.nD Cert.ProjERefIdeal.τ).loc Cert.ProjERefIdeal.main_v5) = v0 c
          ∧ r.2.mem ((c.tc : Thread Cert.ProjERefIdeal.nD Cert.ProjERefIdeal.τ).loc Cert.ProjERefIdeal.main_arg0) = m' ((c.tc : Thread Cert.ProjERefIdeal.nD Cert.ProjERefIdeal.τ).loc Cert.ProjERefIdeal.main_arg0)
          ∧ r.2.mem ((c.tc : Thread Cert.ProjERefIdeal.nD Cert.ProjERefIdeal.τ).loc Cert.ProjERefIdeal.main_arg1) = m' ((c.tc : Thread Cert.ProjERefIdeal.nD Cert.ProjERefIdeal.τ).loc Cert.ProjERefIdeal.main_arg1)
          ∧ r.2.mem ((c.tc : Thread Cert.ProjERefIdeal.nD Cert.ProjERefIdeal.τ).loc Cert.ProjERefIdeal.main_arg2) = m' ((c.tc : Thread Cert.ProjERefIdeal.nD Cert.ProjERefIdeal.τ).loc Cert.ProjERefIdeal.main_arg2)
          ∧ r.2.mem ((c.tc : Thread Cert.ProjERefIdeal.nD Cert.ProjERefIdeal.τ).loc Cert.ProjERefIdeal.main_arg3) = m' ((c.tc : Thread Cert.ProjERefIdeal.nD Cert.ProjERefIdeal.τ).loc Cert.ProjERefIdeal.main_arg3))

def preserves_ProjO_ProjOIdeal : Prop :=
  True

def algebraic_ProjOIdeal_ProjORefIdeal [hProjOIdeal : Cert.ProjOIdeal.Facts] [hProjORefIdeal : Cert.ProjORefIdeal.Facts] : Prop :=
  ∀ (m : (ℓ : Loc Cert.ProjOIdeal.nD Cert.ProjOIdeal.τ Cert.ProjOIdeal.sig) → Buf (Elt Ideal) ℓ) (g : Dev Cert.ProjOIdeal.nD → PrngReg)
    (m' : (ℓ : Loc Cert.ProjORefIdeal.nD Cert.ProjORefIdeal.τ Cert.ProjORefIdeal.sig) → Buf (Elt Ideal) ℓ) (g' : Dev Cert.ProjORefIdeal.nD → PrngReg), Pre_ProjOIdeal m →
    (∀ c : Dev Cert.ProjOIdeal.nD,
      m' ((c.tc : Thread Cert.ProjORefIdeal.nD Cert.ProjORefIdeal.τ).loc Cert.ProjORefIdeal.main_arg0) = m ((c.tc : Thread Cert.ProjOIdeal.nD Cert.ProjOIdeal.τ).loc Cert.ProjOIdeal.main_arg0)
      ∧ m' ((c.tc : Thread Cert.ProjORefIdeal.nD Cert.ProjORefIdeal.τ).loc Cert.ProjORefIdeal.main_arg1) = m ((c.tc : Thread Cert.ProjOIdeal.nD Cert.ProjOIdeal.τ).loc Cert.ProjOIdeal.main_arg1)
      ∧ m' ((c.tc : Thread Cert.ProjORefIdeal.nD Cert.ProjORefIdeal.τ).loc Cert.ProjORefIdeal.main_arg2) = m ((c.tc : Thread Cert.ProjOIdeal.nD Cert.ProjOIdeal.τ).loc Cert.ProjOIdeal.main_arg2)) →
    ∃ (v0 : (c : Dev Cert.ProjOIdeal.nD) → Buf (Elt Ideal) ((c.tc : Thread Cert.ProjOIdeal.nD Cert.ProjOIdeal.τ).loc Cert.ProjOIdeal.main_v2)),
      θ_run (Cert.ProjOIdeal.defs (F := Ideal)) (onTc (τ := Cert.ProjOIdeal.τ) (Cert.ProjOIdeal.main (F := Ideal))) ⟨m, fun _ => 0, g⟩ (fun r => ∀ c : Dev Cert.ProjOIdeal.nD,
          r.2.mem ((c.tc : Thread Cert.ProjOIdeal.nD Cert.ProjOIdeal.τ).loc Cert.ProjOIdeal.main_v2) = v0 c
          ∧ r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
          ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
          ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2))
      ∧ θ_run (Cert.ProjORefIdeal.defs (F := Ideal)) (onTc (τ := Cert.ProjORefIdeal.τ) (Cert.ProjORefIdeal.main (F := Ideal))) ⟨m', fun _ => 0, g'⟩ (fun r => ∀ c : Dev Cert.ProjORefIdeal.nD,
          r.2.mem ((c.tc : Thread Cert.ProjORefIdeal.nD Cert.ProjORefIdeal.τ).loc Cert.ProjORefIdeal.main_v3) = v0 c
          ∧ r.2.mem ((c.tc : Thread Cert.ProjORefIdeal.nD Cert.ProjORefIdeal.τ).loc Cert.ProjORefIdeal.main_arg0) = m' ((c.tc : Thread Cert.ProjORefIdeal.nD Cert.ProjORefIdeal.τ).loc Cert.ProjORefIdeal.main_arg0)
          ∧ r.2.mem ((c.tc : Thread Cert.ProjORefIdeal.nD Cert.ProjORefIdeal.τ).loc Cert.ProjORefIdeal.main_arg1) = m' ((c.tc : Thread Cert.ProjORefIdeal.nD Cert.ProjORefIdeal.τ).loc Cert.ProjORefIdeal.main_arg1)
          ∧ r.2.mem ((c.tc : Thread Cert.ProjORefIdeal.nD Cert.ProjORefIdeal.τ).loc Cert.ProjORefIdeal.main_arg2) = m' ((c.tc : Thread Cert.ProjORefIdeal.nD Cert.ProjORefIdeal.τ).loc Cert.ProjORefIdeal.main_arg2))

def Claim : Prop :=
  ∃ (hFfn : Cert.Ffn.Facts) (hFfnIdeal : Cert.FfnIdeal.Facts) (hFfnRefIdeal : Cert.FfnRefIdeal.Facts) (hMoe : Cert.Moe.Facts) (hMoeIdeal : Cert.MoeIdeal.Facts) (hMoeRefIdeal : Cert.MoeRefIdeal.Facts) (hNorm : Cert.Norm.Facts) (hNormIdeal : Cert.NormIdeal.Facts) (hNormRefIdeal : Cert.NormRefIdeal.Facts) (hNormO : Cert.NormO.Facts) (hNormOIdeal : Cert.NormOIdeal.Facts) (hNormORefIdeal : Cert.NormORefIdeal.Facts) (hProjE : Cert.ProjE.Facts) (hProjEIdeal : Cert.ProjEIdeal.Facts) (hProjERefIdeal : Cert.ProjERefIdeal.Facts) (hProjO : Cert.ProjO.Facts) (hProjOIdeal : Cert.ProjOIdeal.Facts) (hProjORefIdeal : Cert.ProjORefIdeal.Facts) (hPre_routed : Cert.Pre_routed.Facts) (hOn_used_rows : Cert.On_used_rows.Facts),
    quiescent_Ffn (hFfn := hFfn)
    ∧ quiescent_FfnIdeal (hFfnIdeal := hFfnIdeal)
    ∧ quiescent_FfnRefIdeal (hFfnRefIdeal := hFfnRefIdeal)
    ∧ quiescent_Moe (hMoe := hMoe) (hPre_routed := hPre_routed)
    ∧ quiescent_MoeIdeal (hMoeIdeal := hMoeIdeal) (hPre_routed := hPre_routed)
    ∧ quiescent_MoeRefIdeal (hMoeRefIdeal := hMoeRefIdeal)
    ∧ quiescent_MoeRefIdeal_pre_routed (hMoeRefIdeal := hMoeRefIdeal) (hPre_routed := hPre_routed)
    ∧ quiescent_Norm (hNorm := hNorm)
    ∧ quiescent_NormIdeal (hNormIdeal := hNormIdeal)
    ∧ quiescent_NormRefIdeal (hNormRefIdeal := hNormRefIdeal)
    ∧ quiescent_NormO (hNormO := hNormO)
    ∧ quiescent_NormOIdeal (hNormOIdeal := hNormOIdeal)
    ∧ quiescent_NormORefIdeal (hNormORefIdeal := hNormORefIdeal)
    ∧ quiescent_ProjE (hProjE := hProjE)
    ∧ quiescent_ProjEIdeal (hProjEIdeal := hProjEIdeal)
    ∧ quiescent_ProjERefIdeal (hProjERefIdeal := hProjERefIdeal)
    ∧ quiescent_ProjO (hProjO := hProjO)
    ∧ quiescent_ProjOIdeal (hProjOIdeal := hProjOIdeal)
    ∧ quiescent_ProjORefIdeal (hProjORefIdeal := hProjORefIdeal)
    ∧ preserves_Ffn_FfnIdeal
    ∧ algebraic_FfnIdeal_FfnRefIdeal (hFfnIdeal := hFfnIdeal) (hFfnRefIdeal := hFfnRefIdeal)
    ∧ preserves_Moe_MoeIdeal
    ∧ algebraic_MoeIdeal_MoeRefIdeal_on_used_rows (hMoeIdeal := hMoeIdeal) (hMoeRefIdeal := hMoeRefIdeal) (hPre_routed := hPre_routed) (hOn_used_rows := hOn_used_rows)
    ∧ preserves_Norm_NormIdeal
    ∧ algebraic_NormIdeal_NormRefIdeal (hNormIdeal := hNormIdeal) (hNormRefIdeal := hNormRefIdeal)
    ∧ preserves_NormO_NormOIdeal
    ∧ algebraic_NormOIdeal_NormORefIdeal (hNormOIdeal := hNormOIdeal) (hNormORefIdeal := hNormORefIdeal)
    ∧ preserves_ProjE_ProjEIdeal
    ∧ algebraic_ProjEIdeal_ProjERefIdeal (hProjEIdeal := hProjEIdeal) (hProjERefIdeal := hProjERefIdeal)
    ∧ preserves_ProjO_ProjOIdeal
    ∧ algebraic_ProjOIdeal_ProjORefIdeal (hProjOIdeal := hProjOIdeal) (hProjORefIdeal := hProjORefIdeal)
-- ==== On_used_rows.lean ====
abbrev S72 : Shape := ⟨1, ![72]⟩
abbrev S1 : Shape := ⟨1, ![1]⟩
abbrev S36864x2048 : Shape := ⟨2, ![36864, 2048]⟩
abbrev S1x2048 : Shape := ⟨2, ![1, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  shapeCasts_S1_S_ : S1.ShapeCasts S_
  bcast_S_S36864x2048 : S_.BroadcastsInDim S36864x2048 (![] : Fin 0 → Fin S36864x2048.rank)

variable [Facts]

def fn {F : FTy → Type} [FloatOps F] (main_arg0 : IVec S72 32) (main_arg1 : IVec S1 32) (main_arg2 : FVec F S36864x2048 .f32) (main_arg3 : FVec F S1x2048 .f32) (main_arg4 : FVec F S8x2048x5632 .bf16) (main_arg5 : FVec F S8x2048x5632 .bf16) (main_arg6 : FVec F S8x5632x2048 .bf16) : IVec S36864x2048 1 :=
  let main_v0 : IVec S36864x2048 32 := iotaInDim S36864x2048 32 0
  let main_v1 : IVec S_ 32 := shapeCast S_ main_arg1 shapeCasts_S1_S_
  let main_c : IVec S_ 32 := constantI S_ 32 512#32
  let main_v2 : IVec S_ 32 := muli main_v1 main_c
  let main_v3 : IVec S36864x2048 32 := broadcastInDim S36864x2048 ![] bcast_S_S36864x2048 main_v2
  let main_v4 : IVec S36864x2048 1 := cmpi .slt main_v0 main_v3
  main_v4
-- ==== Pre_routed.lean ====
abbrev S72 : Shape := ⟨1, ![72]⟩
abbrev S1 : Shape := ⟨1, ![1]⟩
abbrev S36864x2048 : Shape := ⟨2, ![36864, 2048]⟩
abbrev S1x2048 : Shape := ⟨2, ![1, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)

variable [Facts]

def fn {F : FTy → Type} [FloatOps F] (main_arg0 : IVec S72 32) (main_arg1 : IVec S1 32) (main_arg2 : FVec F S36864x2048 .f32) (main_arg3 : FVec F S1x2048 .f32) (main_arg4 : FVec F S8x2048x5632 .bf16) (main_arg5 : FVec F S8x2048x5632 .bf16) (main_arg6 : FVec F S8x5632x2048 .bf16) : IVec S72 1 × IVec S1 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 72#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Ffn.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S5632x2048 : Shape := ⟨2, ![5632, 2048]⟩
abbrev S16384x5632 : Shape := ⟨2, ![16384, 5632]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Moe.lean ====
abbrev S72 : Shape := ⟨1, ![72]⟩
abbrev S1 : Shape := ⟨1, ![1]⟩
abbrev S36864x2048 : Shape := ⟨2, ![36864, 2048]⟩
abbrev S1x2048 : Shape := ⟨2, ![1, 2048]⟩
abbrev S8x2048x5632 : Shape := ⟨3, ![8, 2048, 5632]⟩
abbrev S8x5632x2048 : Shape := ⟨3, ![8, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 13
  | .smem => 2
  | _ => 0

abbrev bufTy : (tb : Table) → Fin (tcTables nBuf tb) → BufTy
  | .hbm, ⟨0, _⟩ => ⟨S36864x2048, .f32⟩
  | .hbm, ⟨1, _⟩ => ⟨S1x2048, .f32⟩
  | .hbm, ⟨2, _⟩ => ⟨S8x2048x5632, .bf16⟩
  | .hbm, ⟨3, _⟩ => ⟨S8x2048x5632, .bf16⟩
  | .hbm, ⟨4, _⟩ => ⟨S8x5632x2048, .bf16⟩
  | .hbm, ⟨5, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![72, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_19 : BitVec 32 := 0#32
  let v28 : BitVec 1 := Scalar.cmpi .ne v27 c0_i32_19
  v28

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeRefIdeal.lean ====
abbrev S72 : Shape := ⟨1, ![72]⟩
abbrev S1 : Shape := ⟨1, ![1]⟩
abbrev S36864x2048 : Shape := ⟨2, ![36864, 2048]⟩
abbrev S1x2048 : Shape := ⟨2, ![1, 2048]⟩
abbrev S8x2048x5632 : Shape := ⟨3, ![8, 2048, 5632]⟩
abbrev S8x5632x2048 : Shape := ⟨3, ![8, 5632, 2048]⟩
abbrev S2048 : Shape := ⟨1, ![2048]⟩
abbrev S_ : Shape := ⟨0, ![]⟩
abbrev S36864 : Shape := ⟨1, ![36864]⟩
abbrev S36864x1 : Shape := ⟨2, ![36864, 1]⟩
abbrev S72x1 : Shape := ⟨2, ![72, 1]⟩
abbrev S72x512 : Shape := ⟨2, ![72, 512]⟩
abbrev S1x8 : Shape := ⟨2, ![1, 8]⟩
abbrev S36864x8 : Shape := ⟨2, ![36864, 8]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S36864x5632 : Shape := ⟨2, ![36864, 5632]⟩

abbrev nBuf : Space → Nat
  | .hbm => 243
  | .vmem => 0
  | .smem => 0
  | _ => 0

abbrev hbmTy0_0 (i : Nat) : BufTy := match i % 128 with
  | 0 => ⟨S72, .i32⟩
  | 1 => ⟨S1, .i32⟩
  | 2 => ⟨S36864x2048, .f32⟩
  | 3 => ⟨S1x2048, .f32⟩
  | 4 => ⟨S8x2048x5632, .bf16⟩
  | 5 => ⟨S8x2048x5632, .bf16⟩
  | 6 => ⟨S8x5632x2048, .bf16⟩
  | 7 => ⟨S2048, .f32⟩
  | 8 => ⟨S36864x2048, .f32⟩
  | 9 => ⟨S_, .f32⟩
  | 10 => ⟨S36864, .f32⟩
  | 11 => ⟨S36864x1, .f32⟩
  | 12 => ⟨S_, .f32⟩
  | 13 => ⟨S36864x1, .f32⟩
  | 14 => ⟨S36864x1, .f32⟩
  | 15 => ⟨S_, .f32⟩
  | 16 => ⟨S36864x1, .f32⟩
  | 17 => ⟨S36864x1, .f32⟩
  | 18 => ⟨S36864x1, .f32⟩
  | 19 => ⟨S36864x2048, .f32⟩
  | 20 => ⟨S36864x2048, .f32⟩
  | 21 => ⟨S1x2048, .f32⟩
  | 22 => ⟨S36864x2048, .f32⟩
  | 23 => ⟨S36864x2048, .f32⟩
  | 24 => ⟨S72x1, .i32⟩
  | 25 => ⟨S72x512, .i32⟩
  | 26 => ⟨S36864, .i32⟩
  | 27 => ⟨S36864x1, .i32⟩
  | 28 => ⟨S1x8, .i32⟩
  | 29 => ⟨S36864x8, .i32⟩
  | 30 => ⟨S36864x8, .i32⟩
  | 31 => ⟨S36864x8, .i1⟩
  | 32 => ⟨S36864x8, .f32⟩
  | 33 => ⟨S_, .f32⟩
  | 34 => ⟨S36864x2048, .f32⟩
  | 35 => ⟨S36864x1, .f32⟩
  | 36 => ⟨S1x2048x5632, .bf16⟩
  | 37 => ⟨S2048x5632, .bf16⟩
  | 38 => ⟨S2048x5632, .f32⟩
  | 39 => ⟨S1x2048x5632, .bf16⟩
  | 40 => ⟨S2048x5632, .bf16⟩
  | 41 => ⟨S2048x5632, .f32⟩
  | 42 => ⟨S1x5632x2048, .bf16⟩
  | 43 => ⟨S5632x2048, .bf16⟩
  | 44 => ⟨S5632x2048, .f32⟩
  | 45 => ⟨S36864x5632, .f32⟩
  | 46 => ⟨S36864x5632, .f32⟩
  | 47 => ⟨S36864x5632, .f32⟩
  | 48 => ⟨S_, .f32⟩
  | 49 => ⟨S36864x5632, .f32⟩
  | 50 => ⟨S36864x5632, .f32⟩
  | 51 => ⟨S_, .f32⟩
  | 52 => ⟨S36864x5632, .f32⟩
  | 53 => ⟨S36864x5632, .f32⟩
  | 54 => ⟨S36864x5632, .f32⟩
  | 55 => ⟨S36864x5632, .f32⟩
  | 56 => ⟨S36864x5632, .f32⟩
  | 57 => ⟨S36864x2048, .f32⟩
  | 58 => ⟨S36864x2048, .f32⟩
  | 59 => ⟨S36864x2048, .f32⟩
  | 60 => ⟨S36864x2048, .f32⟩
  | 61 => ⟨S36864x1, .f32⟩
  | 62 => ⟨S1x2048x5632, .bf16⟩
  | 63 => ⟨S2048x5632, .bf16⟩
  | 64 => ⟨S2048x5632, .f32⟩
  | 65 => ⟨S1x2048x5632, .bf16⟩
  | 66 => ⟨S2048x5632, .bf16⟩
  | 67 => ⟨S2048x5632, .f32⟩
  | 68 => ⟨S1x5632x2048, .bf16⟩
  | 69 => ⟨S5632x2048, .bf16⟩
  | 70 => ⟨S5632x2048, .f32⟩
  | 71 => ⟨S36864x5632, .f32⟩
  | 72 => ⟨S36864x5632, .f32⟩
  | 73 => ⟨S36864x5632, .f32⟩
  | 74 => ⟨S_, .f32⟩
  | 75 => ⟨S36864x5632, .f32⟩
  | 76 => ⟨S36864x5632, .f32⟩
  | 77 => ⟨S_, .f32⟩
  | 78 => ⟨S36864x5632, .f32⟩
  | 79 => ⟨S36864x5632, .f32⟩
  | 80 => ⟨S36864x5632, .f32⟩
  | 81 => ⟨S36864x5632, .f32⟩
  | 82 => ⟨S36864x5632, .f32⟩
  | 83 => ⟨S36864x2048, .f32⟩
  | 84 => ⟨S36864x2048, .f32⟩
  | 85 => ⟨S36864x2048, .f32⟩
  | 86 => ⟨S36864x2048, .f32⟩
  | 87 => ⟨S36864x1, .f32⟩
  | 88 => ⟨S1x2048x5632, .bf16⟩
  | 89 => ⟨S2048x5632, .bf16⟩
  | 90 => ⟨S2048x5632, .f32⟩
  | 91 => ⟨S1x2048x5632, .bf16⟩
  | 92 => ⟨S2048x5632, .bf16⟩
  | 93 => ⟨S2048x5632, .f32⟩
  | 94 => ⟨S1x5632x2048, .bf16⟩
  | 95 => ⟨S5632x2048, .bf16⟩
  | 96 => ⟨S5632x2048, .f32⟩
  | 97 => ⟨S36864x5632, .f32⟩
  | 98 => ⟨S36864x5632, .f32⟩
  | 99 => ⟨S36864x5632, .f32⟩
  | 100 => ⟨S_, .f32⟩
  | 101 => ⟨S36864x5632, .f32⟩
  | 102 => ⟨S36864x5632, .f32⟩
  | 103 => ⟨S_, .f32⟩
  | 104 => ⟨S36864x5632, .f32⟩
  | 105 => ⟨S36864x5632, .f32⟩
  | 106 => ⟨S36864x5632, .f32⟩
  | 107 => ⟨S36864x5632, .f32⟩
  | 108 => ⟨S36864x5632, .f32⟩
  | 109 => ⟨S36864x2048, .f32⟩
  | 110 => ⟨S36864x2048, .f32⟩
  | 111 => ⟨S36864x2048, .f32⟩
  | 112 => ⟨S36864x2048, .f32⟩
  | 113 => ⟨S36864x1, .f32⟩
  | 114 => ⟨S1x2048x5632, .bf16⟩
  | 115 => ⟨S2048x5632, .bf16⟩
  | 116 => ⟨S2048x5632, .f32⟩
  | 117 => ⟨S1x2048x5632, .bf16⟩
  | 118 => ⟨S2048x5632, .bf16⟩
  | 119 => ⟨S2048x5632, .f32⟩
  | 120 => ⟨S1x5632x2048, .bf16⟩
  | 121 => ⟨S5632x2048, .bf16⟩
  | 122 => ⟨S5632x2048, .f32⟩
  | 123 => ⟨S36864x5632, .f32⟩
  | 124 => ⟨S36864x5632, .f32⟩
  | 125 => ⟨S36864x5632, .f32⟩
  | 126 => ⟨S_, .f32⟩
  | 127 => ⟨S36864x5632, .f32⟩
  | _ => ⟨S72, .i32⟩

abbrev hbmTy0_1 (i : Nat) : BufTy := match i % 128 with
  | 0 => ⟨S36864x5632, .f32⟩
  | 1 => ⟨S_, .f32⟩
  | 2 => ⟨S36864x5632, .f32⟩
  | 3 => ⟨S36864x5632, .f32⟩
  | 4 => ⟨S36864x5632, .f32⟩
  | 5 => ⟨S36864x5632, .f32⟩
  | 6 => ⟨S36864x5632, .f32⟩
  | 7 => ⟨S36864x2048, .f32⟩
  | 8 => ⟨S36864x2048, .f32⟩
  | 9 => ⟨S36864x2048, .f32⟩
  | 10 => ⟨S36864x2048, .f32⟩
  | 11 => ⟨S36864x1, .f32⟩
  | 12 => ⟨S1x2048x5632, .bf16⟩
  | 13 => ⟨S2048x5632, .bf16⟩
  | 14 => ⟨S2048x5632, .f32⟩
  | 15 => ⟨S1x2048x5632, .bf16⟩
  | 16 => ⟨S2048x5632, .bf16⟩
  | 17 => ⟨S2048x5632, .f32⟩
  | 18 => ⟨S1x5632x2048, .bf16⟩
  | 19 => ⟨S5632x2048, .bf16⟩
  | 20 => ⟨S5632x2048, .f32⟩
  | 21 => ⟨S36864x5632, .f32⟩
  | 22 => ⟨S36864x5632, .f32⟩
  | 23 => ⟨S36864x5632, .f32⟩
  | 24 => ⟨S_, .f32⟩
  | 25 => ⟨S36864x5632, .f32⟩
  | 26 => ⟨S36864x5632, .f32⟩
  | 27 => ⟨S_, .f32⟩
  | 28 => ⟨S36864x5632, .f32⟩
  | 29 => ⟨S36864x5632, .f32⟩
  | 30 => ⟨S36864x5632, .f32⟩
  | 31 => ⟨S36864x5632, .f32⟩
  | 32 => ⟨S36864x5632, .f32⟩
  | 33 => ⟨S36864x2048, .f32⟩
  | 34 => ⟨S36864x2048, .f32⟩
  | 35 => ⟨S36864x2048, .f32⟩
  | 36 => ⟨S36864x2048, .f32⟩
  | 37 => ⟨S36864x1, .f32⟩
  | 38 => ⟨S1x2048x5632, .bf16⟩
  | 39 => ⟨S2048x5632, .bf16⟩
  | 40 => ⟨S2048x5632, .f32⟩
  | 41 => ⟨S1x2048x5632, .bf16⟩
  | 42 => ⟨S2048x5632, .bf16⟩
  | 43 => ⟨S2048x5632, .f32⟩
  | 44 => ⟨S1x5632x2048, .bf16⟩
  | 45 => ⟨S5632x2048, .bf16⟩
  | 46 => ⟨S5632x2048, .f32⟩
  | 47 => ⟨S36864x5632, .f32⟩
  | 48 => ⟨S36864x5632, .f32⟩
  | 49 => ⟨S36864x5632, .f32⟩
  | 50 => ⟨S_, .f32⟩
  | 51 => ⟨S36864x5632, .f32⟩
  | 52 => ⟨S36864x5632, .f32⟩
  | 53 => ⟨S_, .f32⟩
  | 54 => ⟨S36864x5632, .f32⟩
  | 55 => ⟨S36864x5632, .f32⟩
  | 56 => ⟨S36864x5632, .f32⟩
  | 57 => ⟨S36864x5632, .f32⟩
  | 58 => ⟨S36864x5632, .f32⟩
  | 59 => ⟨S36864x2048, .f32⟩
  | 60 => ⟨S36864x2048, .f32⟩
  | 61 => ⟨S36864x2048, .f32⟩
  | 62 => ⟨S36864x2048, .f32⟩
  | 63 => ⟨S36864x1, .f32⟩
  | 64 => ⟨S1x2048x5632, .bf16⟩
  | 65 => ⟨S2048x5632, .bf16⟩
  | 66 => ⟨S2048x5632, .f32⟩
  | 67 => ⟨S1x2048x5632, .bf16⟩
  | 68 => ⟨S2048x5632, .bf16⟩
  | 69 => ⟨S2048x5632, .f32⟩
  | 70 => ⟨S1x5632x2048, .bf16⟩
  | 71 => ⟨S5632x2048, .bf16⟩
  | 72 => ⟨S5632x2048, .f32⟩
  | 73 => ⟨S36864x5632, .f32⟩
  | 74 => ⟨S36864x5632, .f32⟩
  | 75 => ⟨S36864x5632, .f32⟩
  | 76 => ⟨S_, .f32⟩
  | 77 => ⟨S36864x5632, .f32⟩
  | 78 => ⟨S36864x5632, .f32⟩
  | 79 => ⟨S_, .f32⟩
  | 80 => ⟨S36864x5632, .f32⟩
  | 81 => ⟨S36864x5632, .f32⟩
  | 82 => ⟨S36864x5632, .f32⟩
  | 83 => ⟨S36864x5632, .f32⟩
  | 84 => ⟨S36864x5632, .f32⟩
  | 85 => ⟨S36864x2048, .f32⟩
  | 86 => ⟨S36864x2048, .f32⟩
  | 87 => ⟨S36864x2048, .f32⟩
  | 88 => ⟨S36864x2048, .f32⟩
  | 89 => ⟨S36864x1, .f32⟩
  | 90 => ⟨S1x2048x5632, .bf16⟩
  | 91 => ⟨S2048x5632, .bf16⟩
  | 92 => ⟨S2048x5632, .f32⟩
  | 93 => ⟨S1x2048x5632, .bf16⟩
  | 94 => ⟨S2048x5632, .bf16⟩
  | 95 => ⟨S2048x5632, .f32⟩
  | 96 => ⟨S1x5632x2048, .bf16⟩
  | 97 => ⟨S5632x2048, .bf16⟩
  | 98 => ⟨S5632x2048, .f32⟩
  | 99 => ⟨S36864x5632, .f32⟩
  | 100 => ⟨S36864x5632, .f32⟩
  | 101 => ⟨S36864x5632, .f32⟩
  | 102 => ⟨S_, .f32⟩
  | 103 => ⟨S36864x5632, .f32⟩
  | 104 => ⟨S36864x5632, .f32⟩
  | 105 => ⟨S_, .f32⟩
  | 106 => ⟨S36864x5632, .f32⟩
  | 107 => ⟨S36864x5632, .f32⟩
  | 108 => ⟨S36864x5632, .f32⟩
  | 109 => ⟨S36864x5632, .f32⟩
  | 110 => ⟨S36864x5632, .f32⟩
  | 111 => ⟨S36864x2048, .f32⟩
  | 112 => ⟨S36864x2048, .f32⟩
  | 113 => ⟨S36864x2048, .f32⟩
  | 114 => ⟨S36864x2048, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call4_v0 : Ref sig .tc := ⟨.hbm, 124, rfl⟩
abbrev main_call4_v1 : Ref sig .tc := ⟨.hbm, 125, rfl⟩
abbrev main_call4_cst : Ref sig .tc := ⟨.hbm, 126, rfl⟩
abbrev main_call4_v2 : Ref sig .tc := ⟨.hbm, 127, rfl⟩
abbrev main_call4_v3 : Ref sig .tc := ⟨.hbm, 128, rfl⟩
abbrev main_call4_cst_0 : Ref sig .tc := ⟨.hbm, 129, rfl⟩
abbrev main_call4_v4 : Ref sig .tc := ⟨.hbm, 130, rfl⟩
abbrev main_call4_v5 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_call6_v0 : Ref sig .tc := ⟨.hbm, 176, rfl⟩
abbrev main_call6_v1 : Ref sig .tc := ⟨.hbm, 177, rfl⟩
abbrev main_call6_cst : Ref sig .tc := ⟨.hbm, 178, rfl⟩
abbrev main_call6_v2 : Ref sig .tc := ⟨.hbm, 179, rfl⟩
abbrev main_call6_v3 : Ref sig .tc := ⟨.hbm, 180, rfl⟩
abbrev main_call6_cst_0 : Ref sig .tc := ⟨.hbm, 181, rfl⟩
abbrev main_call6_v4 : Ref sig .tc := ⟨.hbm, 182, rfl⟩
abbrev main_call6_v5 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_call7_v0 : Ref sig .tc := ⟨.hbm, 202, rfl⟩
abbrev main_call7_v1 : Ref sig .tc := ⟨.hbm, 203, rfl⟩
abbrev main_call7_cst : Ref sig .tc := ⟨.hbm, 204, rfl⟩
abbrev main_call7_v2 : Ref sig .tc := ⟨.hbm, 205, rfl⟩
abbrev main_call7_v3 : Ref sig .tc := ⟨.hbm, 206, rfl⟩
abbrev main_call7_cst_0 : Ref sig .tc := ⟨.hbm, 207, rfl⟩
abbrev main_call7_v4 : Ref sig .tc := ⟨.hbm, 208, rfl⟩
abbrev main_call7_v5 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_call8_v0 : Ref sig .tc := ⟨.hbm, 228, rfl⟩
abbrev main_call8_v1 : Ref sig .tc := ⟨.hbm, 229, rfl⟩
abbrev main_call8_cst : Ref sig .tc := ⟨.hbm, 230, rfl⟩
abbrev main_call8_v2 : Ref sig .tc := ⟨.hbm, 231, rfl⟩
abbrev main_call8_v3 : Ref sig .tc := ⟨.hbm, 232, rfl⟩
abbrev main_call8_cst_0 : Ref sig .tc := ⟨.hbm, 233, rfl⟩
abbrev main_call8_v4 : Ref sig .tc := ⟨.hbm, 234, rfl⟩
abbrev main_call8_v5 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩

abbrev nD : Nat := 1
abbrev τ : Topo := Topo.v7x

variable {F : FTy → Type} [FloatOps F]
-- ==== Norm.lean ====
abbrev S4x4096x2048 : Shape := ⟨3, ![4, 4096, 2048]⟩
abbrev S1x2048 : Shape := ⟨2, ![1, 2048]⟩
abbrev S1x2048x6152 : Shape := ⟨3, ![1, 2048, 6152]⟩
abbrev S1x8 : Shape := ⟨2, ![1, 8]⟩
abbrev S2048x6152 : Shape := ⟨2, ![2048, 6152]⟩
abbrev S2048x3072 : Shape := ⟨2, ![2048, 3072]⟩
abbrev S2048x6144 : Shape := ⟨2, ![2048, 6144]⟩
abbrev S2048x8 : Shape := ⟨2, ![2048, 8]⟩
abbrev S_ : Shape := ⟨0, ![]⟩
abbrev S2048x128 : Shape := ⟨2, ![2048, 128]⟩
abbrev S8 : Shape := ⟨1, ![8]⟩
abbrev S128 : Shape := ⟨1, ![128]⟩
abbrev S1x128 : Shape := ⟨2, ![1, 128]⟩
abbrev S16384x2048 : Shape := ⟨2, ![16384, 2048]⟩
abbrev S2048 : Shape := ⟨1, ![2048]⟩
abbrev S16384x1024 : Shape := ⟨2, ![16384, 1024]⟩
abbrev S16384x8 : Shape := ⟨2, ![16384, 8]⟩
abbrev S512x2048 : Shape := ⟨2, ![512, 2048]⟩
abbrev S2048x512 : Shape := ⟨2, ![2048, 512]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S512x128 : Shape := ⟨2, ![512, 128]⟩

abbrev nBuf : Space → Nat
  | .hbm => 29
  | .vmem => 22
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x6152, .f32⟩
  | .hbm, ⟨3, _⟩ => ⟨S1x8, .f32⟩
  | .hbm, ⟨4, _⟩ => ⟨S2048x6152, .f32⟩
  | .hbm, ⟨5, _⟩ => ⟨S2048x3072, .f32⟩
  | .hbm, ⟨6, _⟩ => ⟨S2048x3072, .f32⟩
  | .hbm, ⟨7, _⟩ => ⟨S2048x6144, .f32⟩
  | .hbm, ⟨8, _⟩ => ⟨S2048x6144, .bf16⟩
  | .hbm, ⟨9, _⟩ => ⟨S2048x8, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S8, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16384x2048, .f32⟩
  | .hbm, ⟨20, _⟩ => ⟨S2048, .f32⟩
  | .hbm, ⟨21, _⟩ => ⟨S1x2048, .f32⟩
  | .hbm, ⟨22, _⟩ => ⟨S16384x1024, .bf16⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S16384x1024, .f32⟩
  | .hbm, ⟨27, _⟩ => ⟨S16384x1024, .f32⟩
  | .hbm, ⟨28, _⟩ => ⟨S16384x8, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x8, .f32⟩
  | .local _ .vmem, ⟨20, _⟩ => ⟨S512x8, .f32⟩
  | .local _ .vmem, ⟨21, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg1 : BitVec 32 := BitVec.ofNat 32 (i 1).val
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .slt arg1 c0_i32_13
  let v31 : BitVec 32 := Scalar.extui v30
  let v32 : BitVec 32 := Scalar.subi v29 v31
  let c2_i32_11 : BitVec 32 := 2#32
  let c0_i32_14 : BitVec 32 := 0#32
  let v33 : BitVec 1 := Scalar.cmpi .sgt c2_i32_11 c0_i32_14
  let v34 : BitVec 32 := Scalar.extui v33
  let c0_i32_15 : BitVec 32 := 0#32
  let v35 : BitVec 1 := Scalar.cmpi .slt c2_i32_11 c0_i32_15
  let v36 : BitVec 32 := Scalar.extui v35
  let v37 : BitVec 32 := Scalar.subi v34 v36
  let v38 : BitVec 1 := Scalar.cmpi .ne v32 v37
  let v39 : BitVec 32 := Scalar.remsi arg1 c2_i32_11
  let c0_i32_16 : BitVec 32 := 0#32
  let v40 : BitVec 1 := Scalar.cmpi .ne v39 c0_i32_16
  let v41 : BitVec 1 := Scalar.andi v38 v40
  let v27 : BitVec 32 := Scalar.divsi arg1 c2_i32_11
  let c1_i32_17 : BitVec 32 := 1#32
  let v42 : BitVec 32 := Scalar.subi v27 c1_i32_17
  let v43 : BitVec 32 := Scalar.select v41 v42 v27
  let c1_i32_18 : BitVec 32 := 1#32
  let v44 : BitVec 1 := Scalar.cmpi .eq v43 c1_i32_18
  let v45 : BitVec 32 := Scalar.extui v44
  let c0_i32_19 : BitVec 32 := 0#32
  let v46 : BitVec 1 := Scalar.cmpi .ne v45 c0_i32_19
  v46

def k0_cond4 (i : grid0.Coords) : BitVec 1 :=
  let arg1 : BitVec 32 := BitVec.ofNat 32 (i 1).val
  let c0_i32_21 : BitVec 32 := 0#32
  let v48 : BitVec 1 := Scalar.cmpi .sgt arg1 c0_i32_21
  let v49 : BitVec 32 := Scalar.extui v48
  let c0_i32_22 : BitVec 32 := 0#32
  let v50 : BitVec 1 := Scalar.cmpi .slt arg1 c0_i32_22
  let v51 : BitVec 32 := Scalar.extui v50
  let v52 : BitVec 32 := Scalar.subi v49 v51
  let c2_i32_20 : BitVec 32 := 2#32
  let c0_i32_23 : BitVec 32 := 0#32
  let v53 : BitVec 1 := Scalar.cmpi .sgt c2_i32_20 c0_i32_23
  let v54 : BitVec 32 := Scalar.extui v53
  let c0_i32_24 : BitVec 32 := 0#32
  let v55 : BitVec 1 := Scalar.cmpi .slt c2_i32_20 c0_i32_24
  let v56 : BitVec 32 := Scalar.extui v55
  let v57 : BitVec 32 := Scalar.subi v54 v56
  let v58 : BitVec 1 := Scalar.cmpi .ne v52 v57
  let v59 : BitVec 32 := Scalar.remsi arg1 c2_i32_20
  let c0_i32_25 : BitVec 32 := 0#32
  let v60 : BitVec 1 := Scalar.cmpi .ne v59 c0_i32_25
  let v61 : BitVec 1 := Scalar.andi v58 v60
  let v47 : BitVec 32 := Scalar.divsi arg1 c2_i32_20
  let c1_i32_26 : BitVec 32 := 1#32
  let v62 : BitVec 32 := Scalar.subi v47 c1_i32_26
  let v63 : BitVec 32 := Scalar.select v61 v62 v47
  let c2_i32_27 : BitVec 32 := 2#32
  let v64 : BitVec 1 := Scalar.cmpi .eq v63 c2_i32_27
  let v65 : BitVec 32 := Scalar.extui v64
  let c0_i32_28 : BitVec 32 := 0#32
  let v66 : BitVec 1 := Scalar.cmpi .ne v65 c0_i32_28
  v66

def k0_cond5 (i : grid0.Coords) : BitVec 1 :=
  let arg1 : BitVec 32 := BitVec.ofNat 32 (i 1).val
  let c0_i32_30 : BitVec 32 := 0#32
  let v68 : BitVec 1 := Scalar.cmpi .sgt arg1 c0_i32_30
  let v69 : BitVec 32 := Scalar.extui v68
  let c0_i32_31 : BitVec 32 := 0#32
  let v70 : BitVec 1 := Scalar.cmpi .slt arg1 c0_i32_31
  let v71 : BitVec 32 := Scalar.extui v70
  let v72 : BitVec 32 := Scalar.subi v69 v71
  let c2_i32_29 : BitVec 32 := 2#32
  let c0_i32_32 : BitVec 32 := 0#32
  let v73 : BitVec 1 := Scalar.cmpi .sgt c2_i32_29 c0_i32_32
  let v74 : BitVec 32 := Scalar.extui v73
  let c0_i32_33 : BitVec 32 := 0#32
  let v75 : BitVec 1 := Scalar.cmpi .slt c2_i32_29 c0_i32_33
  let v76 : BitVec 32 := Scalar.extui v75
  let v77 : BitVec 32 := Scalar.subi v74 v76
  let v78 : BitVec 1 := Scalar.cmpi .ne v72 v77
  let v79 : BitVec 32 := Scalar.remsi arg1 c2_i32_29
  let c0_i32_34 : BitVec 32 := 0#32
  let v80 : BitVec 1 := Scalar.cmpi .ne v79 c0_i32_34
  let v81 : BitVec 1 := Scalar.andi v78 v80
  let v67 : BitVec 32 := Scalar.divsi arg1 c2_i32_29
  let c1_i32_35 : BitVec 32 := 1#32
  let v82 : BitVec 32 := Scalar.subi v67 c1_i32_35
  let v83 : BitVec 32 := Scalar.select v81 v82 v67
  let c3_i32 : BitVec 32 := 3#32
  let v84 : BitVec 1 := Scalar.cmpi .eq v83 c3_i32
  let v85 : BitVec 32 := Scalar.extui v84
  let c0_i32_36 : BitVec 32 := 0#32
  let v86 : BitVec 1 := Scalar.cmpi .ne v85 c0_i32_36
  v86

def k0_cond6 (i : grid0.Coords) : BitVec 1 :=
  let arg1 : BitVec 32 := BitVec.ofNat 32 (i 1).val
  let c0_i32_38 : BitVec 32 := 0#32
  let v88 : BitVec 1 := Scalar.cmpi .sgt arg1 c0_i32_38
  let v89 : BitVec 32 := Scalar.extui v88
  let c0_i32_39 : BitVec 32 := 0#32
  let v90 : BitVec 1 := Scalar.cmpi .slt arg1 c0_i32_39
  let v91 : BitVec 32 := Scalar.extui v90
  let v92 : BitVec 32 := Scalar.subi v89 v91
  let c2_i32_37 : BitVec 32 := 2#32
  let c0_i32_40 : BitVec 32 := 0#32
  let v93 : BitVec 1 := Scalar.cmpi .sgt c2_i32_37 c0_i32_40
  let v94 : BitVec 32 := Scalar.extui v93
  let c0_i32_41 : BitVec 32 := 0#32
  let v95 : BitVec 1 := Scalar.cmpi .slt c2_i32_37 c0_i32_41
  let v96 : BitVec 32 := Scalar.extui v95
  let v97 : BitVec 32 := Scalar.subi v94 v96
  let v98 : BitVec 1 := Scalar.cmpi .ne v92 v97
  let v99 : BitVec 32 := Scalar.remsi arg1 c2_i32_37
  let c0_i32_42 : BitVec 32 := 0#32
  let v100 : BitVec 1 := Scalar.cmpi .ne v99 c0_i32_42
  let v101 : BitVec 1 := Scalar.andi v98 v100
  let v87 : BitVec 32 := Scalar.divsi arg1 c2_i32_37
  let c1_i32_43 : BitVec 32 := 1#32
  let v102 : BitVec 32 := Scalar.subi v87 c1_i32_43
  let v103 : BitVec 32 := Scalar.select v101 v102 v87
  let c4_i32 : BitVec 32 := 4#32
  let v104 : BitVec 1 := Scalar.cmpi .eq v103 c4_i32
  let v105 : BitVec 32 := Scalar.extui v104
  let c0_i32_44 : BitVec 32 := 0#32
  let v106 : BitVec 1 := Scalar.cmpi .ne v105 c0_i32_44
  v106

def k0_cond7 (i : grid0.Coords) : BitVec 1 :=
  let arg1 : BitVec 32 := BitVec.ofNat 32 (i 1).val
  let c0_i32_46 : BitVec 32 := 0#32
  let v108 : BitVec 1 := Scalar.cmpi .sgt arg1 c0_i32_46
  let v109 : BitVec 32 := Scalar.extui v108
  let c0_i32_47 : BitVec 32 := 0#32
  let v110 : BitVec 1 := Scalar.cmpi .slt arg1 c0_i32_47
  let v111 : BitVec 32 := Scalar.extui v110
  let v112 : BitVec 32 := Scalar.subi v109 v111
  let c2_i32_45 : BitVec 32 := 2#32
  let c0_i32_48 : BitVec 32 := 0#32
  let v113 : BitVec 1 := Scalar.cmpi .sgt c2_i32_45 c0_i32_48
  let v114 : BitVec 32 := Scalar.extui v113
  let c0_i32_49 : BitVec 32 := 0#32
  let v115 : BitVec 1 := Scalar.cmpi .slt c2_i32_45 c0_i32_49
  let v116 : BitVec 32 := Scalar.extui v115
  let v117 : BitVec 32 := Scalar.subi v114 v116
  let v118 : BitVec 1 := Scalar.cmpi .ne v112 v117
  let v119 : BitVec 32 := Scalar.remsi arg1 c2_i32_45
  let c0_i32_50 : BitVec 32 := 0#32
  let v120 : BitVec 1 := Scalar.cmpi .ne v119 c0_i32_50
  let v121 : BitVec 1 := Scalar.andi v118 v120
  let v107 : BitVec 32 := Scalar.divsi arg1 c2_i32_45
  let c1_i32_51 : BitVec 32 := 1#32
  let v122 : BitVec 32 := Scalar.subi v107 c1_i32_51
  let v123 : BitVec 32 := Scalar.select v121 v122 v107
  let c5_i32 : BitVec 32 := 5#32
  let v124 : BitVec 1 := Scalar.cmpi .eq v123 c5_i32
  let v125 : BitVec 32 := Scalar.extui v124
  let c0_i32_52 : BitVec 32 := 0#32
  let v126 : BitVec 1 := Scalar.cmpi .ne v125 c0_i32_52
  v126

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== NormRefIdeal.lean ====
abbrev S4x4096x2048 : Shape := ⟨3, ![4, 4096, 2048]⟩
abbrev S1x2048 : Shape := ⟨2, ![1, 2048]⟩
abbrev S1x2048x6152 : Shape := ⟨3, ![1, 2048, 6152]⟩
abbrev S1x8 : Shape := ⟨2, ![1, 8]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x6152 : Shape := ⟨2, ![2048, 6152]⟩
abbrev S16384x6152 : Shape := ⟨2, ![16384, 6152]⟩
abbrev S8 : Shape := ⟨1, ![8]⟩
abbrev S16384x1024 : Shape := ⟨2, ![16384, 1024]⟩
abbrev S16384x8 : Shape := ⟨2, ![16384, 8]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x6152, .f32⟩
  | .hbm, ⟨3, _⟩ => ⟨S1x8, .f32⟩
  | .hbm, ⟨4, _⟩ => ⟨S16384x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x6152, .f32⟩
  | .hbm, ⟨23, _⟩ => ⟨S16384x6152, .f32⟩
  | .hbm, ⟨24, _⟩ => ⟨S8, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x8, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S16384x1024, .bf16⟩
  | .hbm, ⟨34, _⟩ => ⟨S1x8, .f32⟩
  | .hbm, ⟨35, _⟩ => ⟨S16384x8, .f32⟩
  | .hbm, ⟨36, _⟩ => ⟨S16384x8, .f32⟩
  | .hbm, ⟨37, _⟩ => ⟨S16384x8, .f32⟩
  | .hbm, ⟨38, _⟩ => ⟨S_, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .i1⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S16384x8, .f32⟩
  | .hbm, ⟨52, _⟩ => ⟨S16384x8, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== NormO.lean ====
abbrev S16384x2048 : Shape := ⟨2, ![16384, 2048]⟩
abbrev S1x2048 : Shape := ⟨2, ![1, 2048]⟩
abbrev S1x2048x6144 : Shape := ⟨3, ![1, 2048, 6144]⟩
abbrev S2048 : Shape := ⟨1, ![2048]⟩
abbrev S2048x6144 : Shape := ⟨2, ![2048, 6144]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x6144, .f32⟩
  | .hbm, ⟨3, _⟩ => ⟨S2048, .f32⟩
  | .hbm, ⟨4, _⟩ => ⟨S2048x6144, .f32⟩
  | .hbm, ⟨5, _⟩ => ⟨S2048x6144, .bf16⟩
  | .hbm, ⟨6, _⟩ => ⟨S1x2048, .f32⟩
  | .hbm, ⟨7, _⟩ => ⟨S16384x2048, .bf16⟩
  | .hbm, ⟨8, _⟩ => ⟨S16384x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg1 c4_i32
  let c0_i32_8 : BitVec 32 := 0#32
  let v20 : BitVec 1 := Scalar.cmpi .ne v19 c0_i32_8
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg1 : BitVec 32 := BitVec.ofNat 32 (i 1).val
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .slt arg1 c0_i32_13
  let v31 : BitVec 32 := Scalar.extui v30
  let v32 : BitVec 32 := Scalar.subi v29 v31
  let c4_i32_11 : BitVec 32 := 4#32
  let c0_i32_14 : BitVec 32 := 0#32
  let v33 : BitVec 1 := Scalar.cmpi .sgt c4_i32_11 c0_i32_14
  let v34 : BitVec 32 := Scalar.extui v33
  let c0_i32_15 : BitVec 32 := 0#32
  let v35 : BitVec 1 := Scalar.cmpi .slt c4_i32_11 c0_i32_15
  let v36 : BitVec 32 := Scalar.extui v35
  let v37 : BitVec 32 := Scalar.subi v34 v36
  let v38 : BitVec 1 := Scalar.cmpi .ne v32 v37
  let v39 : BitVec 32 := Scalar.remsi arg1 c4_i32_11
  let c0_i32_16 : BitVec 32 := 0#32
  let v40 : BitVec 1 := Scalar.cmpi .ne v39 c0_i32_16
  let v41 : BitVec 1 := Scalar.andi v38 v40
  let v27 : BitVec 32 := Scalar.divsi arg1 c4_i32_11
  let c1_i32_17 : BitVec 32 := 1#32
  let v42 : BitVec 32 := Scalar.subi v27 c1_i32_17
  let v43 : BitVec 32 := Scalar.select v41 v42 v27
  let c1_i32_18 : BitVec 32 := 1#32
  let v44 : BitVec 1 := Scalar.cmpi .eq v43 c1_i32_18
  let v45 : BitVec 32 := Scalar.extui v44
  let c0_i32_19 : BitVec 32 := 0#32
  let v46 : BitVec 1 := Scalar.cmpi .ne v45 c0_i32_19
  v46

def k0_cond4 (i : grid0.Coords) : BitVec 1 :=
  let arg1 : BitVec 32 := BitVec.ofNat 32 (i 1).val
  let c0_i32_21 : BitVec 32 := 0#32
  let v48 : BitVec 1 := Scalar.cmpi .sgt arg1 c0_i32_21
  let v49 : BitVec 32 := Scalar.extui v48
  let c0_i32_22 : BitVec 32 := 0#32
  let v50 : BitVec 1 := Scalar.cmpi .slt arg1 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi arg1 c4_i32_20
  let c0_i32_25 : BitVec 32 := 0#32
  let v60 : BitVec 1 := Scalar.cmpi .ne v59 c0_i32_25
  let v61 : BitVec 1 := Scalar.andi v58 v60
  let v47 : BitVec 32 := Scalar.divsi arg1 c4_i32_20
  let c1_i32_26 : BitVec 32 := 1#32
  let v62 : BitVec 32 := Scalar.subi v47 c1_i32_26
  let v63 : BitVec 32 := Scalar.select v61 v62 v47
  let c2_i32 : BitVec 32 := 2#32
  let v64 : BitVec 1 := Scalar.cmpi .eq v63 c2_i32
  let v65 : BitVec 32 := Scalar.extui v64
  let c0_i32_27 : BitVec 32 := 0#32
  let v66 : BitVec 1 := Scalar.cmpi .ne v65 c0_i32_27
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NormORefIdeal.lean ====
abbrev S16384x2048 : Shape := ⟨2, ![16384, 2048]⟩
abbrev S1x2048 : Shape := ⟨2, ![1, 2048]⟩
abbrev S1x2048x6144 : Shape := ⟨3, ![1, 2048, 6144]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x6144 : Shape := ⟨2, ![2048, 6144]⟩
abbrev S16384x6144 : Shape := ⟨2, ![16384, 6144]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x6144, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x6144, .f32⟩
  | .hbm, ⟨21, _⟩ => ⟨S16384x6144, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== ProjE.lean ====
abbrev S16384x1024 : Shape := ⟨2, ![16384, 1024]⟩
abbrev S1x2048x2048 : Shape := ⟨3, ![1, 2048, 2048]⟩
abbrev S16384x2048 : Shape := ⟨2, ![16384, 2048]⟩
abbrev S2048x2048 : Shape := ⟨2, ![2048, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjERefIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjO.lean ====
abbrev S16384x2048 : Shape := ⟨2, ![16384, 2048]⟩
abbrev S1x2048x2048 : Shape := ⟨3, ![1, 2048, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjORefIdeal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Spec.lean ====
module

public import Idealize.ShloMosaic.Lib.Pipeline.ValueKit

@[expose] public section

noncomputable section

open Idealize.ShloMosaic

namespace Cert.Spec

/-- The root mean square normalisation of one row `h` with the gains `g`. -/
def nrm (h g : Fin 2048 → EReal) (k : Fin 2048) : EReal :=
  h k * Ideal.rsqrt (Ideal.div (∑ x, h x * h x) (Ideal.ofBits .f32 0x45000000#32) + Ideal.ofBits .f32 0x358637BD#32) * g k

/-- One hidden unit of a gated feed-forward layer: the row `u` against one column `a` of the gate weights and one column `b`
    of the up weights. -/
def hid (u a b : Fin 2048 → EReal) : EReal :=
  (∑ k, u k * a k) * Ideal.logistic (∑ k, u k * a k) * ∑ k, u k * b k

end Cert.Spec

end
-- ==== Proof.Ffn.lean ====
module

public import proofs.«01_k».proof.Proof.Spec
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Mathematics

open Cert.FfnIdeal Cert.FfnIdeal.Gen Cert.Spec

theorem pay1_at (h : FVec Ideal S512x2048 .f32) (g : FVec Ideal S1x2048 .f32) (r : Fin 512) (k : Fin 2048) :
    k0_pay1 (F := Ideal) h g (ix2 r k) = nrm (fun x => h (ix2 r x)) (fun x => g (ix2 0 x)) k := by
  pointwise [k0_pay1]
  rfl

theorem pay2_at (h : FVec Ideal S512x2048 .f32) : k0_pay2 (F := Ideal) h = h := by
  funext j
  pointwise [k0_pay2]

theorem pay3_at (acc : FVec Ideal S512x2048 .f32) (xn : FVec Ideal S512x2048 .bf16) (wg wu : FVec Ideal S2048x512 .bf16)
    (wd : FVec Ideal S512x2048 .bf16) (j : S512x2048.Idx) :
    k0_pay3 (F := Ideal) acc xn wg wu wd j = acc j + ∑ f : Fin 512,
      hid (fun k => xn (ix2 (j 0) k)) (fun k => wg (ix2 k f)) (fun k => wu (ix2 k f)) * wd (ix2 f (j 1)) := by
  pointwise [k0_pay3]
  rfl

/-- What one step adds, from the point's blocks. -/
def partOf (h : FVec Ideal S512x2048 .f32) (g : FVec Ideal S1x2048 .f32) (wg wu : FVec Ideal S2048x512 .bf16)
    (wd : FVec Ideal S512x2048 .bf16) (y : S512x2048.Idx) : EReal :=
  ∑ f : Fin 512, hid (nrm (fun x => h (ix2 (y 0) x)) (fun x => g (ix2 0 x))) (fun k => wg (ix2 k f)) (fun k => wu (ix2 k f))
    * wd (ix2 f (y 1))

theorem step_at (acc : FVec Ideal S512x2048 .f32) (h : FVec Ideal S512x2048 .f32) (g : FVec Ideal S1x2048 .f32)
    (wg wu : FVec Ideal S2048x512 .bf16) (wd : FVec Ideal S512x2048 .bf16) (y : S512x2048.Idx) :
    k0_pay3 (F := Ideal) acc (k0_pay1 (F := Ideal) h g) wg wu wd y = acc y + partOf h g wg wu wd y := by
  refine (pay3_at acc _ wg wu wd y).trans (congrArg (acc y + ·) (Finset.sum_congr rfl fun f _ => ?_))
  rw [show (fun k => k0_pay1 (F := Ideal) h g (ix2 (y 0) k)) = nrm (fun x => h (ix2 (y 0) x)) (fun x => g (ix2 0 x)) from
    funext fun k => pay1_at h g (y 0) k]

/-- The reference at one index. -/
theorem ref_at (a0 : FVec Ideal Cert.FfnRefIdeal.S16384x2048 .f32) (a1 : FVec Ideal Cert.FfnRefIdeal.S1x2048 .f32)
    (a2 a3 : FVec Ideal Cert.FfnRefIdeal.S1x2048x5632 .f32) (a4 : FVec Ideal Cert.FfnRefIdeal.S1x5632x2048 .f32)
    (j : S16384x2048.Idx) :
    Cert.FfnRefIdeal.Read.val_main_v22 (F := Ideal) a0 a1 a2 a3 a4 j = a0 j + ∑ f : Fin 5632,
      hid (nrm (fun x => a0 (ix2 (j 0) x)) (fun x => a1 (ix2 0 x))) (fun k => a2 (ix3 0 k f)) (fun k => a3 (ix3 0 k f))
        * a4 (ix3 0 f (j 1)) := by
  rw [← Cert.FfnRefIdeal.Read.val_main_v22_eq]
  pointwise
  rfl

variable (m : (ℓ : Loc nD τ sig) → Buf (Elt Ideal) ℓ)

theorem idx_val : ∀ t : Fin cfg0.N, win0_0.index t = ![t.val / 11, 0]
    ∧ win0_1.index t = ![0, 0]
    ∧ win0_2.index t = ![0, t.val % 11]
    ∧ win0_3.index t = ![0, t.val % 11]
    ∧ win0_4.index t = ![t.val % 11, 0]
    ∧ win0_5.index t = ![t.val / 11, 0] :=
  (by decide +kernel : ∀ t : Fin grid0.N, _)

/-- One step of the accumulation at point `t`. -/
def part (c : Dev nD) (t : Fin cfg0.N) (y : S512x2048.Idx) : EReal :=
  partOf (iblk m c 0 t) (iblk m c 1 t) (iblk m c 2 t) (iblk m c 3 t) (iblk m c 4 t) y

/-- Within a run the rows and the gains are the blocks of the point before. -/
theorem rows_prev (c : Dev nD) (t : Fin cfg0.N) (h : ¬ t.val % 11 = 0) :
    k0_pay1 (F := Ideal) (iblk m c 0 ⟨t.val - 1, Nat.lt_of_le_of_lt (Nat.sub_le _ _) t.isLt⟩)
        (iblk m c 1 ⟨t.val - 1, Nat.lt_of_le_of_lt (Nat.sub_le _ _) t.isLt⟩)
      = k0_pay1 (F := Ideal) (iblk m c 0 t) (iblk m c 1 t) := by
  have e0 : iblk m c 0 ⟨t.val - 1, Nat.lt_of_le_of_lt (Nat.sub_le _ _) t.isLt⟩ = iblk m c 0 t := by
    funext y
    blk_ext [iblk, V, idx_val ⟨t.val - 1, Nat.lt_of_le_of_lt (Nat.sub_le _ _) t.isLt⟩, idx_val t]
  have e1 : iblk m c 1 ⟨t.val - 1, Nat.lt_of_le_of_lt (Nat.sub_le _ _) t.isLt⟩ = iblk m c 1 t := by
    funext y
    blk_ext [iblk, idx_val ⟨t.val - 1, Nat.lt_of_le_of_lt (Nat.sub_le _ _) t.isLt⟩, idx_val t]
  rw [e0, e1]

/-- The first scratch holds the block's normalised rows at every point. -/
theorem scratch_rows (c : Dev nD) : ∀ (n : ℕ) (hn : n < cfg0.N),
    (outsAt0 m c n hn).2.1 = k0_pay1 (F := Ideal) (iblk m c 0 ⟨n, hn⟩) (iblk m c 1 ⟨n, hn⟩) := by
  intro n
  induction n with
  | zero =>
    intro hn
    rw [outsAt0_A m c ⟨0, hn⟩ (Nat.zero_mod _) (by simp)]
    frame_out
  | succ n ih =>
    intro hn
    by_cases h0 : (n + 1) % 11 = 0
    · rw [outsAt0_A m c ⟨n + 1, hn⟩ h0 (by simp [h0])]
      frame_out
    · rw [← rows_prev m c ⟨n + 1, hn⟩ h0]
      show _ = k0_pay1 (F := Ideal) (iblk m c 0 ⟨n, _⟩) (iblk m c 1 ⟨n, _⟩)
      rw [← ih (Nat.lt_of_succ_lt hn)]
      by_cases h1 : (n + 1) % 11 = 10
      · rw [outsAt0_C m c ⟨n + 1, hn⟩ h0 h1]
        unfold sout0_C_0
        rfl
      · rw [outsAt0_B m c ⟨n + 1, hn⟩ h0 h1]
        unfold sout0_B_0
        rfl

/-- The second scratch: from the residual at a run's first point, one step more at every point. -/
theorem acc_first (c : Dev nD) (t : Fin cfg0.N) (h : t.val % 11 = 0) (y : S512x2048.Idx) :
    (outsAt0 m c t.val t.isLt).2.2 y = (0 : EReal) + ((if t.val % 11 = 0 then (show FVec Ideal S512x2048 .f32 from iblk m c 0 t) y else 0) + part m c t y) := by
  rw [outsAt0_A m c t h (by omega)]
  frame_out
  rw [step_at, pay2_at, if_pos h, zero_add]
  rfl

theorem acc_next (c : Dev nD) (t : Fin cfg0.N) (h : ¬ t.val % 11 = 0) (y : S512x2048.Idx) :
    (outsAt0 m c t.val t.isLt).2.2 y = (outsAt0 m c (t.val - 1) (Nat.lt_of_le_of_lt (Nat.sub_le _ _) t.isLt)).2.2 y
      + ((if t.val % 11 = 0 then (show FVec Ideal S512x2048 .f32 from iblk m c 0 t) y else 0) + part m c t y) := by
  rw [if_neg h, zero_add]
  by_cases h1 : t.val % 11 = 10
  · rw [outsAt0_C m c t h h1]
    frame_out
    rw [read_unread_whole, read_unread_whole, scratch_rows m c, rows_prev m c t h, step_at]
    rfl
  · rw [outsAt0_B m c t h h1]
    frame_out
    rw [read_unread_whole, read_unread_whole, scratch_rows m c, rows_prev m c t h, step_at]
    rfl

theorem N_le (p : Fin cfg0.N) : p.val < 352 := lt_of_lt_of_eq p.isLt N_0

/-! The reads of the windows' blocks, as reads of the argument arrays. -/

theorem rd0 (c : Dev nD) (p : Fin cfg0.N) (r : Fin 512) (x : Fin 2048) (h : p.val / 11 * 512 + r.val < 16384) :
    (show FVec Ideal S512x2048 .f32 from iblk m c 0 p) (ix2 r x)
      = (m ((c : Thread nD τ).loc main_arg0) : FVec Ideal S16384x2048 .f32) (ix2 ⟨p.val / 11 * 512 + r.val, h⟩ x) := by
  blk_ext [iblk, V, idx_val p]

theorem rd1 (c : Dev nD) (p : Fin cfg0.N) (x : Fin 2048) :
    (show FVec Ideal S1x2048 .f32 from iblk m c 1 p) (ix2 0 x)
      = (m ((c : Thread nD τ).loc main_arg1) : FVec Ideal S1x2048 .f32) (ix2 0 x) := by
  blk_simp [iblk, idx_val p]
  entry_read
  pointwise
  blk_ext [idx_val p]

theorem rd2 (c : Dev nD) (p : Fin cfg0.N) (k : Fin 2048) (f : Fin 512) (h : p.val % 11 * 512 + f.val < 5632) :
    (show FVec Ideal S2048x512 .bf16 from iblk m c 2 p) (ix2 k f)
      = (m ((c : Thread nD τ).loc main_arg2) : FVec Ideal S1x2048x5632 .f32) (ix3 0 k ⟨p.val % 11 * 512 + f.val, h⟩) := by
  blk_simp [iblk, idx_val p]
  entry_read
  pointwise
  blk_ext [idx_val p]

theorem rd3 (c : Dev nD) (p : Fin cfg0.N) (k : Fin 2048) (f : Fin 512) (h : p.val % 11 * 512 + f.val < 5632) :
    (show FVec Ideal S2048x512 .bf16 from iblk m c 3 p) (ix2 k f)
      = (m ((c : Thread nD τ).loc main_arg3) : FVec Ideal S1x2048x5632 .f32) (ix3 0 k ⟨p.val % 11 * 512 + f.val, h⟩) := by
  blk_simp [iblk, idx_val p]
  entry_read
  pointwise
  blk_ext [idx_val p]

theorem rd4 (c : Dev nD) (p : Fin cfg0.N) (f : Fin 512) (n : Fin 2048) (h : p.val % 11 * 512 + f.val < 5632) :
    (show FVec Ideal S512x2048 .bf16 from iblk m c 4 p) (ix2 f n)
      = (m ((c : Thread nD τ).loc main_arg4) : FVec Ideal S1x5632x2048 .f32) (ix3 0 ⟨p.val % 11 * 512 + f.val, h⟩ n) := by
  blk_simp [iblk, idx_val p]
  entry_read
  pointwise
  blk_ext [idx_val p]

theorem final (c : Dev nD) : (dats m 0 c).arrAt 5 (cfgs 0).N = Cert.FfnRefIdeal.Read.val_main_v22 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  have hm : t.val % 11 = 10 := (flush0_5 t).mp hf
  blk_simp
  have e : (outsAt0 m c t.val t.isLt).1 = (outsAt0 m c t.val t.isLt).2.2 := by
    rw [outsAt0_C m c t (by omega) hm]
    frame_out
  rw [after0_5, e, Pipeline.eq_sum_fin_of_reset_step_apply_of_flush (fun n h => (outsAt0 m c n h).2.2) 11 (fun _ => (0 : EReal)) _
    (acc_first m c) (acc_next m c) t hm _, ref_at]
  show (_ : EReal) = _
  rw [zero_add, Finset.sum_add_distrib]
  refine congrArg₂ (· + ·) ?_ ?_
  · rw [Fin.sum_univ_succ, Finset.sum_eq_zero (fun s _ => if_neg (by simp [Fin.val_succ]; omega)), add_zero, if_pos (by simp)]
    blk_ext [iblk, V, idx_val t, idx_val ⟨_, Pipeline.run_point_lt_of_flush t hm 0⟩]
  · unfold part partOf
    refine Fin.sum_mul_add_congr fun s k hl => ?_
    have hN := N_le t
    have hs : 11 * (t.val / 11) + s.val < cfg0.N := Pipeline.run_point_lt_of_flush t hm s
    have hd : (11 * (t.val / 11) + s.val) / 11 = t.val / 11 := by omega
    have hr : (11 * (t.val / 11) + s.val) % 11 = s.val := by omega
    have hy : (y 0 : ℕ) < 512 := (y 0).isLt
    refine congrArg₂ (fun u v : EReal => u * v) (congr (congrArg₂ hid (congrArg₂ nrm ?_ ?_) ?_) ?_) ?_
    · funext x
      refine (rd0 m c ⟨_, hs⟩ (y 0) x (by show (11 * (t.val / 11) + s.val) / 11 * 512 + (y 0 : ℕ) < 16384; omega)).trans ?_
      blk_ext [idx_val t]
    · exact funext fun x => rd1 m c ⟨_, hs⟩ x
    · funext x
      refine (rd2 m c ⟨_, hs⟩ x k (by show (11 * (t.val / 11) + s.val) % 11 * 512 + k.val < 5632; omega)).trans ?_
      blk_ext
    · funext x
      refine (rd3 m c ⟨_, hs⟩ x k (by show (11 * (t.val / 11) + s.val) % 11 * 512 + k.val < 5632; omega)).trans ?_
      blk_ext
    · refine (rd4 m c ⟨_, hs⟩ k (y 1) (by show (11 * (t.val / 11) + s.val) % 11 * 512 + k.val < 5632; omega)).trans ?_
      blk_ext [idx_val t]

end Cert.FfnIdeal.Mathematics

end
-- ==== Proof.MoeKernel.lean ====
/- The routed feed-forward's body, at one grid point. A point belongs to a tile of rows (grid coordinate 0) and to a
   slice of the hidden width (grid coordinate 1). The body does nothing on a tile at or past the number of tiles in use,
   a word of the prefetched table; on the others it normalises the rows at the first slice, adds the slice's share to
   the accumulator, and copies the accumulator out at the last slice. `next` is what it leaves in the two scratch
   buffers and in the output's buffer, `Runs` the statement that it does, and `runs` that statement proved. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each table as the body is handed it: its whole buffer as a memref. -/
abbrev tb0 : Memref sig .tc .smem S72 .i32 := Memref.whole main_arg0
abbrev tb1 : Memref sig .tc .smem S1 .i32 := Memref.whole main_arg1

/-- A table's contents on core `c`, and half of its buffer held at them (the pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The point is on the first slice of the hidden width. -/
abbrev First (i : grid0.Coords) : Prop := (Scalar.cmpi .ne (Scalar.extui (Scalar.cmpi .eq (BitVec.ofNat 32 (i 1).val) 0#32)) 0#32) = 1#1
/-- The point is on the last slice. -/
abbrev Last (i : grid0.Coords) : Prop := k0_cond3 i = 1#1
/-- The point's tile is in use, `v` tiles being in use. -/
abbrev Used (i : grid0.Coords) (v : BitVec 32) : Prop := k0_cond1 i v = 1#1

/-- What the kernel carries from point to point: the normalised rows, the accumulator, the output's buffer. -/
abbrev Held (F : FTy → Type) [FloatOps F] : Type := Vec F S512x2048 .bf16 × Vec F S512x2048 .f32 × Vec F S512x2048 .f32

/-- What the body leaves at a point, from what it found. -/
def next (i : grid0.Coords) (v : BitVec 32) (x0 : Vec F S512x2048 .f32) (x1 : Vec F S1x2048 .f32) (x2 : Vec F S1x2048x512 .bf16)
    (x3 : Vec F S1x2048x512 .bf16) (x4 : Vec F S1x512x2048 .bf16) (s : Held F) : Held F :=
  if Used i v then
    if First i then (k0_pay1 x0 x1, k0_pay3 k0_pay2 (k0_pay1 x0 x1) x2 x3 x4, s.2.2)
    else if Last i then (s.1, k0_pay3 s.2.1 s.1 x2 x3 x4, k0_pay3 s.2.1 s.1 x2 x3 x4)
    else (s.1, k0_pay3 s.2.1 s.1 x2 x3 x4, s.2.2)
  else s

/-- The body, run on any whole memrefs holding the inputs' blocks, the carried contents `s` and the tables, ends with
    the inputs and the tables as they were and the carried contents `s'`. -/
def Runs (c : Dev nD) (i : grid0.Coords) (x0 : Vec F S512x2048 .f32) (x1 : Vec F S1x2048 .f32) (x2 : Vec F S1x2048x512 .bf16)
    (x3 : Vec F S1x2048x512 .bf16) (x4 : Vec F S1x512x2048 .bf16) (t0 : TbBuf (F := F) c tb0) (t1 : TbBuf (F := F) c tb1) (s s' : Held F) : Prop :=
  ∀ (arg4 : Memref sig .tc .vmem S512x2048 .f32) (harg4 : arg4.IsWhole) (arg5 : Memref sig .tc .vmem S1x2048 .f32) (harg5 : arg5.IsWhole)
    (arg6 : Memref sig .tc .vmem S1x2048x512 .bf16) (harg6 : arg6.IsWhole) (arg7 : Memref sig .tc .vmem S1x2048x512 .bf16) (harg7 : arg7.IsWhole)
    (arg8 : Memref sig .tc .vmem S1x512x2048 .bf16) (harg8 : arg8.IsWhole) (arg9 : Memref sig .tc .vmem S512x2048 .f32) (harg9 : arg9.IsWhole)
    (arg10 : Memref sig .tc .vmem S512x2048 .bf16) (harg10 : arg10.IsWhole) (arg11 : Memref sig .tc .vmem S512x2048 .f32) (harg11 : arg11.IsWhole)
    (E : Set ℕ) (K : PUnit → sProp 𝕄),
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare s.2.2
        ∗ owns (c : Thread nD τ) arg10 fullShare s.1 ∗ owns (c : Thread nD τ) arg11 fullShare s.2.1 ∗ tbPt c tb0 t0 ∗ tbPt c tb1 t1
        ∗ (iprop(owns (c : Thread nD τ) arg4 fullShare x0 ∗ owns (c : Thread nD τ) arg5 fullShare x1 ∗ owns (c : Thread nD τ) arg6 fullShare x2
          ∗ owns (c : Thread nD τ) arg7 fullShare x3 ∗ owns (c : Thread nD τ) arg8 fullShare x4 ∗ owns (c : Thread nD τ) arg9 fullShare s'.2.2
          ∗ owns (c : Thread nD τ) arg10 fullShare s'.1 ∗ owns (c : Thread nD τ) arg11 fullShare s'.2.1 ∗ tbPt c tb0 t0 ∗ tbPt c tb1 t1) -∗ K ⟨⟩))
      ⊢ wp frame (wpE (defs₀ (F := F)) Variants.none c none) E
          (cc0_ffn_moe i tb0 (Memref.isWhole_whole _) tb1 (Memref.isWhole_whole _) arg4 harg4 arg5 harg5 arg6 harg6 arg7 harg7 arg8 harg8 arg9 harg9 arg10 harg10 arg11 harg11) K

variable (c : Dev nD) (i : grid0.Coords) (x0 : Vec F S512x2048 .f32) (x1 : Vec F S1x2048 .f32) (x2 : Vec F S1x2048x512 .bf16)
  (x3 : Vec F S1x2048x512 .bf16) (x4 : Vec F S1x512x2048 .bf16) (t0 : TbBuf (F := F) c tb0) (t1 : TbBuf (F := F) c tb1) (s : Held F)

/-- The word the body reads: how many tiles are in use. -/
abbrev word (t1 : TbBuf (F := F) c tb1) : BitVec 32 :=
  View.readAt (Elt F) tb1.view (Rect.unit (s := S1) ![0] S1.size inb_S1_S1_0).toLoadRect t1 (Shape.Idx.first (numel1_S1.symm ▸ Nat.one_pos))

/-- A buffer written whole last reads as that. -/
theorem read_last {S : Shape} {e : EltTy} {sp : Space} (v : View sig .tc sp S e) (f : v.ty.Contents (Elt F)) {off : Fin S.rank → Nat}
    (inb : ∀ a, off a + S.size a ≤ S.size a) (w : S.Idx → Elt F e) (L : List (View.Piece (Elt F) S e)) (h : ∀ a, off a = 0) :
    v.read (Elt F) (v.writes (Elt F) f (⟨Rect.unit off S.size inb, w⟩ :: L)) = w := by
  obtain rfl : off = fun _ => 0 := funext h
  rw [View.read_writes_of_cover v f v v.junk _ (fun y => ⟨_, List.mem_cons_self, by
    show y ∈ (Rect.whole S).set; rw [Rect.set_whole]; exact Finset.mem_univ y⟩),
    View.read_writes_junk_eq_canon, View.canon_cons_unit_lit inb w L h]

/-- A tile not in use: nothing happens. -/
theorem runs_unused (hu : ¬ Used i (word c t1)) : Runs c i x0 x1 x2 x3 x4 t0 t1 s s := by
  intro arg4 harg4 arg5 harg5 arg6 harg6 arg7 harg7 arg8 harg8 arg9 harg9 arg10 harg10 arg11 harg11 E K
  simp only [cc0_ffn_moe_eq_skeleton]; unfold cc0_ffn_moe_skel
  iintro ⟨H0, H1, H2, H3, H4, H5, HS0, HS1, HT0, HT1, Hk⟩
  sl_exec (disch := first | sl_exact hu)
  sl_step
  iapply Hk
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  iexact HT1

/-- The first slice of a tile in use. -/
theorem runs_first (hu : Used i (word c t1)) (hf : First i) (hl : ¬ Last i) :
    Runs c i x0 x1 x2 x3 x4 t0 t1 s (k0_pay1 x0 x1, k0_pay3 k0_pay2 (k0_pay1 x0 x1) x2 x3 x4, s.2.2) := by
  intro arg4 harg4 arg5 harg5 arg6 harg6 arg7 harg7 arg8 harg8 arg9 harg9 arg10 harg10 arg11 harg11 E K
  simp only [cc0_ffn_moe_eq_skeleton]; unfold cc0_ffn_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact hu | sl_exact hf | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]
  · iexists _; isplitr; swap; · iexact HS0
    ipureintro
    frame_open
    rw [read_last _ _ _ _ _ (by decide)]
    frame_out
  isplitl [HS1]
  · iexists _; isplitr; swap; · iexact HS1
    ipureintro
    frame_open
    rw [read_last _ _ _ _ _ (by decide)]
    frame_out
  isplitl [HT0]; · iexact HT0
  iexact HT1

/-- A slice of a tile in use that is neither the first nor the last. -/
theorem runs_middle (hu : Used i (word c t1)) (hf : ¬ First i) (hl : ¬ Last i) :
    Runs c i x0 x1 x2 x3 x4 t0 t1 s (s.1, k0_pay3 s.2.1 s.1 x2 x3 x4, s.2.2) := by
  intro arg4 harg4 arg5 harg5 arg6 harg6 arg7 harg7 arg8 harg8 arg9 harg9 arg10 harg10 arg11 harg11 E K
  simp only [cc0_ffn_moe_eq_skeleton]; unfold cc0_ffn_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact hu | sl_exact hf | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]
  · iexists _; isplitr; · ipureintro; exact harg10.read_unread _
    iexact HS0
  isplitl [HS1]
  · iexists _; isplitr; swap; · iexact HS1
    ipureintro
    frame_open
    rw [read_last _ _ _ _ _ (by decide)]
    frame_out
  isplitl [HT0]; · iexact HT0
  iexact HT1

/-- The last slice of a tile in use. -/
theorem runs_last (hu : Used i (word c t1)) (hf : ¬ First i) (hl : Last i) :
    Runs c i x0 x1 x2 x3 x4 t0 t1 s (s.1, k0_pay3 s.2.1 s.1 x2 x3 x4, k0_pay3 s.2.1 s.1 x2 x3 x4) := by
  intro arg4 harg4 arg5 harg5 arg6 harg6 arg7 harg7 arg8 harg8 arg9 harg9 arg10 harg10 arg11 harg11 E K
  simp only [cc0_ffn_moe_eq_skeleton]; unfold cc0_ffn_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact hu | sl_exact hf | sl_exact hl)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    frame_open
    rw [read_last _ _ _ _ _ (by decide)]
    frame_out
  isplitl [HS0]
  · iexists _; isplitr; · ipureintro; exact harg10.read_unread _
    iexact HS0
  isplitl [HS1]
  · iexists _; isplitr; swap; · iexact HS1
    ipureintro
    frame_open
    rw [read_last _ _ _ _ _ (by decide)]
    frame_out
  isplitl [HT0]; · iexact HT0
  iexact HT1

/-- The body's specification at every point. -/
theorem runs (hx : First i → ¬ Last i) : Runs c i x0 x1 x2 x3 x4 t0 t1 s (next i (word c t1) x0 x1 x2 x3 x4 s) := by
  unfold next
  split_ifs with hu hf hl
  · exact runs_first c i x0 x1 x2 x3 x4 t0 t1 s hu hf (hx hf)
  · exact runs_last c i x0 x1 x2 x3 x4 t0 t1 s hu hf hl
  · exact runs_middle c i x0 x1 x2 x3 x4 t0 t1 s hu hf hl
  · exact runs_unused c i x0 x1 x2 x3 x4 t0 t1 s hu

end Cert.MoeIdeal.Routed

end
-- ==== Proof.MoePlan.lean ====
/- The routed feed-forward's launch: its prefetched tables read off the launch memory, when the blocks they choose lie
   inside the arrays (`ok_of_bounds`), and the grid's schedule in closed form — which points work on a tile in use, which
   are a tile's first and last, where the output's block moves on. -/
module

public import proofs.«01_k».proof.Proof.MoeKernel
public import Idealize.ShloMosaic.Lib.Claim

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The launch memory -/

/-- Core `c`'s buffers when the region is entered: as launched. -/
abbrev V (c : Dev nD) (b : Ref sig .tc) : Buf (Elt F) ((c : Thread nD τ).loc b) := m ((c : Thread nD τ).loc b)

set_option maxHeartbeats 800000 in
/-- @main up to the region is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The blocks the tables choose lie inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The tables' words -/

/-- A position of a table of one axis. -/
def pos1 : S1.Idx := fun a => ⟨0, by revert a; decide⟩
def pos72 (i : Fin 72) : S72.Idx := fun a => ⟨i.val, by obtain rfl : a = (0 : Fin 1) := Subsingleton.elim (α := Fin 1) _ _; exact i.isLt⟩

/-- How many tiles are in use, and the expert of tile `i`, as the tables hold them. -/
def used : BitVec 32 := (tbl m 1 : S1.Idx → BitVec 32) pos1
def expert (i : Fin 72) : BitVec 32 := (tbl m 0 : S72.Idx → BitVec 32) (pos72 i)
/-- The number of tiles in use. -/
def cnt : ℕ := (used m).toNat

/-- The tables' words in range. -/
structure InRange : Prop where
  lo : 1 ≤ cnt m
  hi : cnt m ≤ 72
  ex : ∀ i, (expert m i).toNat < 8

theorem used_eq : used m = BitVec.ofNat 32 (cnt m) := by unfold cnt; rw [BitVec.ofNat_toNat, BitVec.setWidth_eq]

theorem at_used (inb : ∀ a, (![0] : Fin 1 → Nat) a + S1.size a ≤ S1.size a) (h : S1.numel = 1) :
    (tbl m).at 1 (Rect.unit (s := S1) ![0] S1.size inb) h = used m := by
  refine congrArg (tbl m 1 : S1.Idx → BitVec 32) (funext fun a => Fin.ext ?_)
  obtain rfl : a = (0 : Fin 1) := Subsingleton.elim (α := Fin 1) _ _
  rfl

theorem atD_used : (tbl m).atD 1 ![0] = used m := by
  unfold Pipeline.Prefetch.Contents.atD
  rw [dif_pos (by decide)]
  refine congrArg (tbl m 1 : S1.Idx → BitVec 32) (funext fun a => Fin.ext ?_)
  obtain rfl : a = (0 : Fin 1) := Subsingleton.elim (α := Fin 1) _ _
  rfl

theorem word_used (c : Dev nD) : word c (tbl m 1) = used m := by
  refine congrArg (tbl m 1 : S1.Idx → BitVec 32) (funext fun a => Fin.ext ?_)
  obtain rfl : a = (0 : Fin 1) := Subsingleton.elim (α := Fin 1) _ _
  rfl

theorem at_expert (i : grid0.Coords) (h : S1.numel = 1) :
    (tbl m).at 0 (Rect.unit (s := S72) ![(Scalar.indexCast (BitVec.ofNat 32 (i 0).val) : Index).toNat] S1.size (k0_off1_inb i)) h
      = expert m ⟨(i 0).val, (i 0).isLt⟩ := by
  refine congrArg (tbl m 0 : S72.Idx → BitVec 32) (funext fun a => Fin.ext ?_)
  obtain rfl : a = (0 : Fin 1) := Subsingleton.elim (α := Fin 1) _ _
  have hi : (i 0).val < 72 := (i 0).isLt
  show (BitVec.ofNat 32 (i 0).val).toNat + 1 * 0 = (i 0).val
  rw [BitVec.toNat_ofNat, Nat.mod_eq_of_lt (by omega)]; omega

/-- A signed comparison of two small words is the comparison of their values. -/
theorem slt_small {a b : ℕ} (ha : a < 2 ^ 31) (hb : b < 2 ^ 31) : (BitVec.ofNat 32 a).slt (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp only [Nat.cast_lt]

/-! ## The windows' blocks in closed form -/

section Blocks

variable (hR : InRange m) (i : grid0.Coords)
include hR

theorem ix_rows (inb : ∀ a, (![0] : Fin 1 → Nat) a + S1.size a ≤ S1.size a) (h : S1.numel = 1) :
    cc0_transform_0 inb h (tbl m) i = ![min (i 0).val (cnt m - 1), 0] := by
  obtain ⟨lo, hi, -⟩ := hR
  have h0 : (i 0).val < 72 := (i 0).isLt
  unfold cc0_transform_0
  dsimp only
  rw [at_used, used_eq, show Scalar.subi (BitVec.ofNat 32 (cnt m)) 1#32 = BitVec.ofNat 32 (cnt m - 1) from
    BitVec.eq_of_toNat_eq (by unfold Scalar.subi IntOp.subi; rw [BitVec.toNat_sub]; simp only [BitVec.toNat_ofNat]; omega)]
  unfold Scalar.minsi IntOp.minsi
  rw [slt_small (by omega) (by omega)]
  by_cases hlt : (i 0).val < cnt m - 1
  · rw [if_pos (by simpa using hlt), BitVec.toNat_ofNat, Nat.mod_eq_of_lt (by omega), Nat.min_eq_left (by omega)]; rfl
  · rw [if_neg (by simpa using hlt), BitVec.toNat_ofNat, Nat.mod_eq_of_lt (by omega), Nat.min_eq_right (by omega)]; rfl

theorem ix_out (inb : ∀ a, (![0] : Fin 1 → Nat) a + S1.size a ≤ S1.size a) (h : S1.numel = 1) :
    cc0_transform_5 inb h (tbl m) i = ![min (i 0).val (cnt m - 1), 0] := ix_rows m hR i inb h

/-- The slice of the hidden width the weights' blocks are on: the last one, on a tile not in use. -/
def slice (i : grid0.Coords) : ℕ := if (i 0).val < cnt m then (i 1).val else 10

theorem slice_eq : (Scalar.select (Scalar.cmpi .slt (BitVec.ofNat 32 (i 0).val) (used m)) (BitVec.ofNat 32 (i 1).val) 10#32).toNat = slice m i := by
  obtain ⟨lo, hi, -⟩ := hR
  have h0 : (i 0).val < 72 := (i 0).isLt
  have h1 : (i 1).val < 11 := (i 1).isLt
  rw [used_eq]
  unfold slice Scalar.cmpi IntOp.cmpi
  dsimp only
  rw [slt_small (by omega) (by omega), WordCmp.select_ofBool]
  by_cases hlt : (i 0).val < cnt m
  · rw [if_pos hlt, if_pos (by simpa using hlt), BitVec.toNat_ofNat, Nat.mod_eq_of_lt (by omega)]
  · rw [if_neg hlt, if_neg (by simpa using hlt)]; rfl

theorem slice_lt : slice m i < 11 := by
  have h1 : (i 1).val < 11 := (i 1).isLt
  unfold slice; split <;> omega

theorem ix_gate (k1 : ∀ i : grid0.Coords, ∀ a, (k0_off1 i) a + S1.size a ≤ S72.size a) (h : S1.numel = 1) (inb : ∀ a, (![0] : Fin 1 → Nat) a + S1.size a ≤ S1.size a) :
    cc0_transform_2 k1 h inb (tbl m) i = ![(expert m ⟨(i 0).val, (i 0).isLt⟩).toNat, 0, slice m i] := by
  unfold cc0_transform_2
  dsimp only
  rw [at_used, slice_eq m hR, at_expert]; rfl

theorem ix_up (k1 : ∀ i : grid0.Coords, ∀ a, (k0_off1 i) a + S1.size a ≤ S72.size a) (h : S1.numel = 1) (inb : ∀ a, (![0] : Fin 1 → Nat) a + S1.size a ≤ S1.size a) :
    cc0_transform_3 k1 h inb (tbl m) i = ![(expert m ⟨(i 0).val, (i 0).isLt⟩).toNat, 0, slice m i] := ix_gate m hR i k1 h inb

theorem ix_down (k1 : ∀ i : grid0.Coords, ∀ a, (k0_off1 i) a + S1.size a ≤ S72.size a) (h : S1.numel = 1) (inb : ∀ a, (![0] : Fin 1 → Nat) a + S1.size a ≤ S1.size a) :
    cc0_transform_4 k1 h inb (tbl m) i = ![(expert m ⟨(i 0).val, (i 0).isLt⟩).toNat, slice m i, 0] := by
  unfold cc0_transform_4
  dsimp only
  rw [at_used, slice_eq m hR, at_expert]; rfl

end Blocks

/-- The blocks lie inside the arrays where the tables' words are in range. -/
theorem ok_of_inRange (hR : InRange m) : Ok m := by
  have hs (i : grid0.Coords) := slice_lt m hR i
  have he (i : grid0.Coords) := hR.ex ⟨(i 0).val, (i 0).isLt⟩
  obtain ⟨lo, hi, -⟩ := id hR
  have rows (ix : Fin 2 → ℕ) (i : grid0.Coords) (h : ix = ![min (i 0).val (cnt m - 1), 0]) : ∀ a, (ix a + 1) * S512x2048.size a ≤ S36864x2048.size a := by
    subst h
    intro a
    match a with
    | 0 => show (min (i 0).val (cnt m - 1) + 1) * 512 ≤ 36864; omega
    | 1 => show (0 + 1) * 2048 ≤ 2048; omega
  have wide (ix : Fin 3 → ℕ) (i : grid0.Coords) (h : ix = ![(expert m ⟨(i 0).val, (i 0).isLt⟩).toNat, 0, slice m i]) :
      ∀ a, (ix a + 1) * S1x2048x512.size a ≤ S8x2048x5632.size a := by
    subst h
    have h1 := hs i; have h2 := he i
    intro a
    match a with
    | 0 => show ((expert m ⟨(i 0).val, (i 0).isLt⟩).toNat + 1) * 1 ≤ 8; omega
    | 1 => show (0 + 1) * 2048 ≤ 2048; omega
    | 2 => show (slice m i + 1) * 512 ≤ 5632; omega
  have tall (ix : Fin 3 → ℕ) (i : grid0.Coords) (h : ix = ![(expert m ⟨(i 0).val, (i 0).isLt⟩).toNat, slice m i, 0]) :
      ∀ a, (ix a + 1) * S1x512x2048.size a ≤ S8x5632x2048.size a := by
    subst h
    have h1 := hs i; have h2 := he i
    intro a
    match a with
    | 0 => show ((expert m ⟨(i 0).val, (i 0).isLt⟩).toNat + 1) * 1 ≤ 8; omega
    | 1 => show (slice m i + 1) * 512 ≤ 5632; omega
    | 2 => show (0 + 1) * 2048 ≤ 2048; omega
  exact ⟨fun i => ⟨rows _ i (ix_rows m hR i _ _), .inl rfl⟩,
    fun i => ⟨wide _ i (ix_gate m hR i _ _ _), .inr (Affine.block_words_dvd (of_decide_eq_true rfl) (by decide))⟩,
    fun i => ⟨wide _ i (ix_up m hR i _ _ _), .inr (Affine.block_words_dvd (of_decide_eq_true rfl) (by decide))⟩,
    fun i => ⟨tall _ i (ix_down m hR i _ _ _), .inr (Affine.block_words_dvd (of_decide_eq_true rfl) (by decide))⟩,
    fun i => ⟨rows _ i (ix_out m hR i _ _), .inl rfl⟩⟩

/-! ## The schedule, point by point -/

theorem coords_0 (t : Fin grid0.N) : (grid0.coords t 0).val = t.val / 11 := by
  have ht : t.val < 792 := Nat.lt_of_lt_of_eq t.isLt N_0
  rw [show (grid0.coords t 0).val = t.val / 11 % 72 from Pipeline.Grid.coords_val t 0 (by decide) rfl, Nat.mod_eq_of_lt (by omega)]

theorem coords_1 (t : Fin grid0.N) : (grid0.coords t 1).val = t.val % 11 := by
  rw [show (grid0.coords t 1).val = t.val / 1 % 11 from Pipeline.Grid.coords_val t 1 (by decide) rfl, Nat.div_one]

theorem first_iff (t : Fin grid0.N) : First (grid0.coords t) ↔ t.val % 11 = 0 := by
  simp only [First, coords_1]
  word_cmp

theorem last_iff (t : Fin grid0.N) : Last (grid0.coords t) ↔ t.val % 11 = 10 := by
  simp only [Last, k0_cond3, coords_1]
  word_cmp

theorem used_iff (hR : InRange m) (t : Fin grid0.N) : Used (grid0.coords t) (used m) ↔ t.val / 11 < cnt m := by
  have ht : t.val < 792 := Nat.lt_of_lt_of_eq t.isLt N_0
  obtain ⟨lo, hi, -⟩ := hR
  simp only [Used, k0_cond1, coords_0, used_eq]
  word_cmp

/-- The output's block moves on after the last slice of each tile in use but the last such tile; that one's is written
    back at the end. -/
theorem flush_out (hR : InRange m) (hO : Ok m) (t : Fin (cfgM m hO).N) :
    ((cfgM m hO).win 5).flush t = true ↔ t.val = 791 ∨ (t.val % 11 = 10 ∧ t.val / 11 + 1 < cnt m) := by
  have ht : t.val < 792 := Nat.lt_of_lt_of_eq t.isLt N_0
  have hN : grid0.N = 792 := N_0
  obtain ⟨lo, hi, -⟩ := id hR
  have e (s : Fin grid0.N) : ((cfgM m hO).win 5).index s = ![min (s.val / 11) (cnt m - 1), 0] := by
    rw [← coords_0]; exact ix_out m hR (grid0.coords s) _ _
  unfold Pipeline.Window.flush
  rw [show ((cfgM m hO).win 5).isOut = true from rfl, Bool.true_and, Bool.or_eq_true, decide_eq_true_iff, decide_eq_true_iff]
  constructor
  · rintro (h | ⟨h, hne⟩)
    · left; have : t.val + 1 = 792 := h.trans hN; omega
    · right
      rw [e, e] at hne
      have : min ((t.val + 1) / 11) (cnt m - 1) ≠ min (t.val / 11) (cnt m - 1) := fun h => hne (by rw [h])
      omega
  · rintro (h | ⟨h1, h2⟩)
    · left; exact (show t.val + 1 = 792 by omega).trans hN.symm
    · right
      refine ⟨(show t.val + 1 < 792 by omega).trans_eq hN.symm, ?_⟩
      rw [e, e]
      intro h
      have : min ((t.val + 1) / 11) (cnt m - 1) = min (t.val / 11) (cnt m - 1) := congrFun h 0
      omega

/-- The output's buffer is stored into at the last slice of a tile in use, only. -/
theorem idle_out (hR : InRange m) (hO : Ok m) (t : Fin (cfgM m hO).N) :
    (cfgM m hO).idle 5 (grid0.coords t) = !decide (t.val / 11 < cnt m ∧ t.val % 11 = 10) := by
  show (!(k0_cond1 (grid0.coords t) ((tbl m).atD 1 ![0]) == 1#1 && k0_cond3 (grid0.coords t) == 1#1)) = _
  rw [atD_used]
  congr 1
  rw [Bool.eq_iff_iff, Bool.and_eq_true, beq_iff_eq, beq_iff_eq, decide_eq_true_iff]
  exact and_congr (used_iff m hR t) (last_iff t)

end Cert.MoeIdeal.Routed

end
-- ==== Proof.MoeFrame.lean ====
/- The routed feed-forward's run. The grid's points are walked with what the kernel carries between them named (`st`): the
   normalised rows of the tile being worked on and its accumulator. From the body's specification (`runs`) at every
   point, the launch: what every array holds at the end (`run_main`), the arguments unchanged and the machine quiescent
   (`frame`). -/
module

public import proofs.«01_k».proof.Proof.MoePlan
public import Idealize.ShloMosaic.Lib.Pipeline.TableIdle

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The staged blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The tables' halves the region hands the body. -/
theorem PhiT0_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Each window's staging memref at a point, and the two scratch buffers. -/
abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2048x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x2048 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x2048 .f32 := spec0_5.stage ((cfgM m hO).slots t 5)
abbrev hs0_5 (hO : Ok m) (t : Fin (cfgM m hO).N) : (ms0_5 m hO t).IsWhole := hstage0_5 (((cfgM m hO).slots t 5).cast nbuf0_5)
abbrev scM0_0 : Memref sig .tc .vmem S512x2048 .bf16 := Memref.whole cc0_scratch0
abbrev scM0_1 : Memref sig .tc .vmem S512x2048 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body at point `t`, on what the pipeline calls it with. -/
abbrev bodyAt0 (a : (pcfg0 (F := F)).Adm) (t : Fin (cfg0 a).N) : Prog (TpuEff nD τ sig (Elt F) Λ₀ .tc) PUnit :=
  cc0_ffn_moe (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## What the kernel carries -/

/-- What is carried into point `n`. -/
def st (hO : Ok m) (c : Dev nD) : ℕ → Held F
  | 0 => (View.canon [], View.canon [], View.canon [])
  | n + 1 =>
    if h : n < (cfgM m hO).N then
      next (grid0.coords ⟨n, h⟩) (used m) (iblk m hO c 0 ⟨n, h⟩) (iblk m hO c 1 ⟨n, h⟩) (iblk m hO c 2 ⟨n, h⟩) (iblk m hO c 3 ⟨n, h⟩) (iblk m hO c 4 ⟨n, h⟩) (st hO c n)
    else st hO c n

theorem st_succ (hO : Ok m) (c : Dev nD) (t : Fin (cfgM m hO).N) :
    st m hO c (t.val + 1) = next (grid0.coords t) (used m) (iblk m hO c 0 t) (iblk m hO c 1 t) (iblk m hO c 2 t) (iblk m hO c 3 t) (iblk m hO c 4 t) (st m hO c t.val) := by
  rw [st, dif_pos t.isLt]

/-- What the accumulator holds when tile `i` is done. -/
def done (hO : Ok m) (c : Dev nD) (i : ℕ) : Vec F S512x2048 .f32 := (st m hO c (11 * i + 11)).2.1

/-- The invariant before point `n`: the scratch at what is carried into it (anything, before the first point). -/
def PhiS (hO : Ok m) (c : Dev nD) : (n : ℕ) → n ≤ (cfgM m hO).N → sProp 𝕄
  | 0, _ => iprop(Pipeline.ΦA spec0 c ∗ Pipeline.ΦT pre0 (tbl m) c)
  | n + 1, _ => iprop(iprop(iprop(owns (c : Thread nD τ) scM0_0 fullShare (st m hO c (n + 1)).1 ∗ owns (c : Thread nD τ) scM0_1 fullShare (st m hO c (n + 1)).2.1) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(iprop(owns (c : Thread nD τ) scM0_0 fullShare (st m hO c n).1 ∗ owns (c : Thread nD τ) scM0_1 fullShare (st m hO c n).2.1) ∗ (∃ r, prngReg c r)) ∗ Pipeline.ΦT pre0 (tbl m) c) := by
  cases n with
  | zero => exact absurd rfl hz
  | succ n => rfl

/-- The proof data: an input's buffer holds its block; the output's, where it is written or written back, the accumulator
    its tile ends with. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => done m hO c (min (t.val / 11) (cnt m - 1))
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = done m hO c (min (t.val / 11) (cnt m - 1)) := by dsimp only [dats]; try rfl

/-- Each input's staging buffer holds its block at every point, fetched there or not. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- At a point past the tiles in use the output's buffer still holds the last such tile's accumulator. -/
theorem before_out (hR : InRange m) (hO : Ok m) (c : Dev nD) (t : Fin (cfgM m hO).N) (ht : cnt m ≤ t.val / 11) (d) :
    (dats m hO 0 c).before 5 t d = done m hO c (cnt m - 1) := by
  have hN : t.val < 792 := Nat.lt_of_lt_of_eq t.isLt N_0
  obtain ⟨lo, hi, -⟩ := id hR
  have idle (s : Fin (cfgM m hO).N) (h : cnt m ≤ s.val / 11) : (cfgM m hO).idle 5 (grid0.coords s) = true := by
    rw [idle_out m hR hO s, Bool.not_eq_true', decide_eq_false_iff_not]; omega
  have stay (s : Fin (cfgM m hO).N) (h : cnt m ≤ s.val / 11 + 1) (hs : s.val < 791) : ((cfgM m hO).win 5).flush s = false := by
    rw [← Bool.not_eq_true, flush_out m hR hO s]; omega
  rw [(dats m hO 0 c).before_idle_run 5 (fun _ => rfl) d (t.val - 11 * cnt m) t (by omega) (fun j h1 h2 => ⟨idle j (by omega), stay j (by omega) (by omega)⟩)]
  rw [(dats m hO 0 c).before_of_pos 5 _ (show t.val - (t.val - 11 * cnt m) ≠ 0 by omega) rfl d]
  rw [stay _ (by show cnt m ≤ (t.val - (t.val - 11 * cnt m) - 1) / 11 + 1; omega) (by show t.val - (t.val - 11 * cnt m) - 1 < 791; omega), if_neg Bool.false_ne_true]
  have hNN : (cfgM m hO).N = 792 := N_0
  unfold Dat.left
  rw [show (cfgM m hO).idle 5 ((cfgM m hO).grid.coords ⟨t.val - (t.val - 11 * cnt m) - 1, (show _ < 792 by omega).trans_eq hNN.symm⟩) = false from by
    refine (idle_out m hR hO _).trans ?_
    rw [Bool.not_eq_false', decide_eq_true_iff]
    show (t.val - (t.val - 11 * cnt m) - 1) / 11 < cnt m ∧ (t.val - (t.val - 11 * cnt m) - 1) % 11 = 10
    omega]
  dsimp only
  unfold Dat.kept
  rw [after0_5]
  dsimp only
  rw [show min ((t.val - (t.val - 11 * cnt m) - 1) / 11) (cnt m - 1) = cnt m - 1 by omega]
  try rfl

/-! ## The body at a point -/

section Next

variable (i : grid0.Coords) (v : BitVec 32) (x0 : Vec F S512x2048 .f32) (x1 : Vec F S1x2048 .f32) (x2 : Vec F S1x2048x512 .bf16)
  (x3 : Vec F S1x2048x512 .bf16) (x4 : Vec F S1x512x2048 .bf16)

/-- What is carried in the scratch does not depend on the output's buffer, -/
theorem next_out (s : Held F) (o : Vec F S512x2048 .f32) :
    (next i v x0 x1 x2 x3 x4 (s.1, s.2.1, o)).1 = (next i v x0 x1 x2 x3 x4 s).1 ∧ (next i v x0 x1 x2 x3 x4 (s.1, s.2.1, o)).2.1 = (next i v x0 x1 x2 x3 x4 s).2.1 := by
  unfold next; split_ifs <;> exact ⟨rfl, rfl⟩

/-- nor, at a tile's first slice, on what was carried before; -/
theorem next_first (hu : Used i v) (hf : First i) (s s' : Held F) :
    (next i v x0 x1 x2 x3 x4 s).1 = (next i v x0 x1 x2 x3 x4 s').1 ∧ (next i v x0 x1 x2 x3 x4 s).2.1 = (next i v x0 x1 x2 x3 x4 s').2.1 := by
  unfold next; rw [if_pos hu, if_pos hf, if_pos hu, if_pos hf]; exact ⟨rfl, rfl⟩

/-- the output's buffer gets the accumulator at the last slice of a tile in use, -/
theorem next_live (hu : Used i v) (hf : ¬ First i) (hl : Last i) (s : Held F) : (next i v x0 x1 x2 x3 x4 s).2.2 = (next i v x0 x1 x2 x3 x4 s).2.1 := by
  unfold next; rw [if_pos hu, if_neg hf, if_pos hl]

/-- and keeps what it held everywhere else. -/
theorem next_idle (h : ¬ (Used i v ∧ Last i)) (hx : First i → ¬ Last i) (s : Held F) : (next i v x0 x1 x2 x3 x4 s).2.2 = s.2.2 := by
  unfold next
  by_cases hu : Used i v
  · rw [if_pos hu]
    by_cases hf : First i
    · rw [if_pos hf]
    · rw [if_neg hf, if_neg fun hl => h ⟨hu, hl⟩]
  · rw [if_neg hu]

end Next

/-- What the body leaves at point `t` from any carried scratch `s` and output's buffer `o`. -/
abbrev nextAt (hO : Ok m) (c : Dev nD) (t : Fin (cfgM m hO).N) (s : Held F) (o : Vec F S512x2048 .f32) : Held F :=
  next (grid0.coords t) (used m) (iblk m hO c 0 t) (iblk m hO c 1 t) (iblk m hO c 2 t) (iblk m hO c 3 t) (iblk m hO c 4 t) (s.1, s.2.1, o)

theorem first_last (t : Fin grid0.N) : First (grid0.coords t) → ¬ Last (grid0.coords t) := by
  rw [first_iff, last_iff]; omega

/-- The output's buffer as the body leaves it is what the pipeline asks for. -/
theorem leaves_out (hR : InRange m) (hO : Ok m) (c : Dev nD) (t : Fin (cfgM m hO).N) (s : Held F)
    (hs : (nextAt m hO c t s (View.canon [])).2.1 = (st m hO c (t.val + 1)).2.1) (d)
    (o : Vec F S512x2048 .f32) (ho : o = (dats m hO 0 c).before 5 t d) :
    owns (c : Thread nD τ) (ms0_5 m hO t) fullShare (nextAt m hO c t s o).2.2 ⊢ ((dats m hO 0 c).leavesExact 5 t : sProp 𝕄) := by
  have hN : t.val < 792 := Nat.lt_of_lt_of_eq t.isLt N_0
  obtain ⟨lo, hi, -⟩ := id hR
  by_cases hl : t.val / 11 < cnt m ∧ t.val % 11 = 10
  · rw [show (dats m hO 0 c).leavesExact 5 t = owns (c : Thread nD τ) (ms0_5 m hO t) fullShare ((dats m hO 0 c).after 5 t) from by
      unfold Dat.leavesExact; rw [show (cfgM m hO).idle 5 ((cfgM m hO).grid.coords t) = false from by
        refine (idle_out m hR hO t).trans ?_; rw [decide_eq_true hl]; rfl]; try rfl]
    have e : (nextAt m hO c t s o).2.2 = (st m hO c (t.val + 1)).2.1 :=
      (next_live _ _ _ _ _ _ _ ((used_iff m hR t).mpr hl.1) (fun h => by rw [first_iff] at h; omega) ((last_iff t).mpr hl.2) _).trans
        ((next_out _ _ _ _ _ _ _ s o).2.trans ((next_out _ _ _ _ _ _ _ s (View.canon [])).2.symm.trans hs))
    rw [after0_5, e]
    unfold done
    rw [show 11 * min (t.val / 11) (cnt m - 1) + 11 = t.val + 1 by omega]
  · have hi' : (cfgM m hO).idle 5 ((cfgM m hO).grid.coords t) = true := by
      refine (idle_out m hR hO t).trans ?_; rw [decide_eq_false hl]; rfl
    have e : (nextAt m hO c t s o).2.2 = o :=
      next_idle _ _ _ _ _ _ _ (fun h => hl ⟨(used_iff m hR t).mp h.1, (last_iff t).mp h.2⟩) (first_last t) _
    rw [e]
    by_cases hf : ((cfgM m hO).win 5).flush t = true
    · have h := (flush_out m hR hO t).mp hf
      rw [show (dats m hO 0 c).leavesExact 5 t = owns (c : Thread nD τ) (ms0_5 m hO t) fullShare ((dats m hO 0 c).after 5 t) from by
        unfold Dat.leavesExact; rw [hi', hf]; try rfl]
      rw [after0_5, show min (t.val / 11) (cnt m - 1) = cnt m - 1 by omega, ← before_out m hR hO c t (by omega) d, ← ho]
    · rw [Dat.leavesExact_idle (dats m hO 0 c) 5 t hi' (by simpa using hf)]
      subst ho
      iintro H; iexists d; iexact H

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

/-- The scratch before a point: at some contents from which the body reaches what is carried out of it. -/
theorem Phi_before (hR : InRange m) (hO : Ok m) (c : Dev nD) (t : Fin (cfgM m hO).N) :
    (dats m hO 0 c).Φ t.castSucc ⊢ (iprop(∃ s : Held F, ⌜∀ o, (nextAt m hO c t s o).1 = (st m hO c (t.val + 1)).1 ∧ (nextAt m hO c t s o).2.1 = (st m hO c (t.val + 1)).2.1⌝
      ∗ owns (c : Thread nD τ) scM0_0 fullShare s.1 ∗ owns (c : Thread nD τ) scM0_1 fullShare s.2.1 ∗ (∃ r, prngReg c r) ∗ tbPt c tb0 (tbl m 0) ∗ tbPt c tb1 (tbl m 1)) : sProp 𝕄) := by
  rw [PhiS_castSucc, ← PhiT0_eq]
  by_cases hz : t.val = 0
  · rw [PhiS_zero m hO c _ _ hz, PhiA0_eq]
    iintro ⟨⟨⟨⟨%s0, HS0⟩, ⟨%s1, HS1⟩⟩, Hg⟩, HT⟩
    iexists (s0, s1, View.canon [])
    isplitr
    · ipureintro
      intro o
      rw [st_succ]
      exact next_first _ _ _ _ _ _ _ ((used_iff m hR t).mpr (by have := hR.lo; omega)) ((first_iff t).mpr (by omega)) _ _
    isplitl [HS0]; · iexact HS0
    isplitl [HS1]; · iexact HS1
    isplitl [Hg]; · iexact Hg
    iexact HT
  · rw [PhiS_pos m hO c _ _ hz]
    iintro ⟨⟨⟨HS0, HS1⟩, Hg⟩, HT⟩
    iexists (st m hO c t.val)
    isplitr
    · ipureintro
      intro o
      rw [st_succ]
      exact next_out _ _ _ _ _ _ _ _ _
    isplitl [HS0]; · iexact HS0
    isplitl [HS1]; · iexact HS1
    isplitl [Hg]; · iexact Hg
    iexact HT

/-- The body at any point, from a carried scratch `s` that leads to what is carried out of it. -/
theorem sound_at (hR : InRange m) (hO : Ok m) (c : Dev nD) (t : Fin (cfgM m hO).N) (s : Held F)
    (hs : ∀ o, (nextAt m hO c t s o).1 = (st m hO c (t.val + 1)).1 ∧ (nextAt m hO c t s o).2.1 = (st m hO c (t.val + 1)).2.1)
    (d) (o : Vec F S512x2048 .f32) (ho : o = (dats m hO 0 c).before 5 t d) :
    (iprop((∃ r, prngReg c r) ∗ (dats m hO 0 c).owesAt () t.castSucc
      ∗ owns (c : Thread nD τ) (ms0_0 m hO t) fullShare (iblk m hO c 0 t) ∗ owns (c : Thread nD τ) (ms0_1 m hO t) fullShare (iblk m hO c 1 t)
      ∗ owns (c : Thread nD τ) (ms0_2 m hO t) fullShare (iblk m hO c 2 t) ∗ owns (c : Thread nD τ) (ms0_3 m hO t) fullShare (iblk m hO c 3 t)
      ∗ owns (c : Thread nD τ) (ms0_4 m hO t) fullShare (iblk m hO c 4 t) ∗ owns (c : Thread nD τ) (ms0_5 m hO t) fullShare o
      ∗ owns (c : Thread nD τ) scM0_0 fullShare s.1 ∗ owns (c : Thread nD τ) scM0_1 fullShare s.2.1 ∗ tbPt c tb0 (tbl m 0) ∗ tbPt c tb1 (tbl m 1)) : sProp 𝕄)
    ⊢ wp frame (wpE (defs₀ (F := F)) Variants.none c none) Set.univ (bodyAt0 (adm m hO) t) (fun _ => bodyPost m hO c t) := by
  have key := runs c (grid0.coords t) (iblk m hO c 0 t) (iblk m hO c 1 t) (iblk m hO c 2 t) (iblk m hO c 3 t) (iblk m hO c 4 t) (tbl m 0) (tbl m 1)
    (s.1, s.2.1, o) (first_last t)
  rw [word_used] at key
  have hl := leaves_out m hR hO c t s (hs _).2 d o ho
  unfold bodyPost
  rw [show (dats m hO 0 c).owesAt () t.succ = (dats m hO 0 c).owesAt () t.castSucc from rfl,
    show (dats m hO 0 c).Φ t.succ = PhiS m hO c (t.val + 1) t.isLt from rfl, PhiS_pos m hO c (t.val + 1) t.isLt (Nat.succ_ne_zero _), PhiT0_eq,
    show (dats m hO 0 c).leavesExact 0 t = owns (c : Thread nD τ) (ms0_0 m hO t) fullShare (iblk m hO c 0 t) from rfl,
    show (dats m hO 0 c).leavesExact 1 t = owns (c : Thread nD τ) (ms0_1 m hO t) fullShare (iblk m hO c 1 t) from rfl,
    show (dats m hO 0 c).leavesExact 2 t = owns (c : Thread nD τ) (ms0_2 m hO t) fullShare (iblk m hO c 2 t) from rfl,
    show (dats m hO 0 c).leavesExact 3 t = owns (c : Thread nD τ) (ms0_3 m hO t) fullShare (iblk m hO c 3 t) from rfl,
    show (dats m hO 0 c).leavesExact 4 t = owns (c : Thread nD τ) (ms0_4 m hO t) fullShare (iblk m hO c 4 t) from rfl]
  rw [← (hs o).1, ← (hs o).2]
  unfold bodyAt0
  iintro ⟨Hg, Ho, H0, H1, H2, H3, H4, H5, HS0, HS1, HT0, HT1⟩
  iapply (key _ (hs0_0 m hO t) _ (hs0_1 m hO t) _ (hs0_2 m hO t) _ (hs0_3 m hO t) _ (hs0_4 m hO t) _ (hs0_5 m hO t) scM0_0 (Memref.isWhole_whole _) scM0_1 (Memref.isWhole_whole _) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply hl; iexact H5

/-- The body at any point. -/
theorem sound_body (hR : InRange m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  simp only [before0_0, before0_1, before0_2, before0_3, before0_4]
  iintro ⟨HΦ, Ho, ⟨%d0, H0⟩, ⟨%d1, H1⟩, ⟨%d2, H2⟩, ⟨%d3, H3⟩, ⟨%d4, H4⟩, ⟨%d5, H5⟩⟩
  ihave ⟨%s, %hs, HS0, HS1, Hg, HT0, HT1⟩ := (Phi_before m hR hO c t) $$ HΦ
  iapply (sound_at m hR hO c t s hs d5 _ rfl)
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  iexact HT1

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hR : InRange m) (hO : Ok m) (c : Dev nD) : BodyObligation (dats (F := F) m hO 0 c) (defs₀ (F := F)) Variants.none () Set.univ := fun t => by
  rw [bigSep_W0, bigSep_W0, defs₀_row m hO]
  exact triple_restated (sound_body m hR hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 792 := N_0; omega)

/-! ## The run and the frame -/

variable (ρ : Dev nD → PrngReg)

-- the library's launch is stated of any pipeline, and is fitted to this one by unfolding plain definitions
set_option backward.isDefEq.respectTransparency.types false in
/-- The launch: every execution ends with the arrays as the proof data say and every counter at zero. -/
theorem run_main_quiescent (hR : InRange m) (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hR hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The same without the counters. -/
theorem run_main (hR : InRange m) (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hR hO)

/-- What every final state says of the arguments. -/
theorem args_of (hO : Ok m) (r) (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (by decide : main_arg0 ∈ Pipeline.restRefs sig spec0)).trans rfl,
    ((h c).2 main_arg1 (by decide : main_arg1 ∈ Pipeline.restRefs sig spec0)).trans rfl,
    ((h c).1 0).trans (((dats m hO 0 c).arrAt_in 0 rfl _).trans ((A_eq m hO c 0).trans rfl)),
    ((h c).1 1).trans (((dats m hO 0 c).arrAt_in 1 rfl _).trans ((A_eq m hO c 1).trans rfl)),
    ((h c).1 2).trans (((dats m hO 0 c).arrAt_in 2 rfl _).trans ((A_eq m hO c 2).trans rfl)),
    ((h c).1 3).trans (((dats m hO 0 c).arrAt_in 3 rfl _).trans ((A_eq m hO c 3).trans rfl)),
    ((h c).1 4).trans (((dats m hO 0 c).arrAt_in 4 rfl _).trans ((A_eq m hO c 4).trans rfl))⟩

/-- Every execution ends, with the arguments unchanged and every counter at zero. -/
theorem frame (hR : InRange m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m hO r h.1 c, h.2⟩) (run_main_quiescent m ρ hR hO)

end Cert.MoeIdeal.Routed

end
-- ==== Proof.MoeBits.lean ====
/- The routed feed-forward at the kernel's own floats is the same program text as at the extended reals, so its frame is
   the one proved for every float type; and what the precondition and the mask of the claims say of the two tables. -/
module

public import proofs.«01_k».proof.Proof.MoeFrame
public import proofs.«01_k».proof.Proof.Gen.Moe
public import proofs.«01_k».proof.Proof.Gen.Pre_routed
public import proofs.«01_k».proof.Proof.Gen.On_used_rows

@[expose] public section

noncomputable section

open Idealize.ShloMosaic.Tactic Idealize Idealize.ShloMosaic Idealize.ShloMosaic.TcCoe Idealize.SL.Sem

namespace Cert.MoeIdeal.Routed

variable {F : FTy → Type} [FloatOps F]

/-! ## What the precondition says of the tables -/

theorem both_of_and : ∀ a b : Bool, BitVec.ofBool a &&& BitVec.ofBool b = 1#1 → a = true ∧ b = true := by decide

theorem lt_of_cmp (x : BitVec 32) (h : Scalar.andi (Scalar.cmpi .sge x 0#32) (Scalar.cmpi .slt x 8#32) = 1#1) : x.toNat < 8 := by
  obtain ⟨h1, h2⟩ := both_of_and _ _ h
  rw [BitVec.sle_iff_toInt_le, BitVec.toInt_eq_toNat_cond x] at h1
  rw [BitVec.slt_iff_toInt_lt, BitVec.toInt_eq_toNat_cond x] at h2
  have hx := x.isLt
  simp at h1 h2
  omega

theorem mem_of_cmp (x : BitVec 32) (h : Scalar.andi (Scalar.cmpi .sge x 1#32) (Scalar.cmpi .sle x 72#32) = 1#1) : 1 ≤ x.toNat ∧ x.toNat ≤ 72 := by
  obtain ⟨h1, h2⟩ := both_of_and _ _ h
  rw [BitVec.sle_iff_toInt_le, BitVec.toInt_eq_toNat_cond x] at h1 h2
  have hx := x.isLt
  simp at h1 h2
  omega

theorem inRange_of_pre (m : (ℓ : Loc nD τ sig) → Buf (Elt F) ℓ)
    (h : ∀ c : Dev nD,
      (Cert.Pre_routed.fn (F := F) (m (c.tc.loc main_arg0)) (m (c.tc.loc main_arg1)) (m (c.tc.loc main_arg2)) (m (c.tc.loc main_arg3))
        (m (c.tc.loc main_arg4)) (m (c.tc.loc main_arg5)) (m (c.tc.loc main_arg6))).1 = (fun _ => 1#1)
      ∧ (Cert.Pre_routed.fn (F := F) (m (c.tc.loc main_arg0)) (m (c.tc.loc main_arg1)) (m (c.tc.loc main_arg2)) (m (c.tc.loc main_arg3))
        (m (c.tc.loc main_arg4)) (m (c.tc.loc main_arg5)) (m (c.tc.loc main_arg6))).2 = (fun _ => 1#1)) : InRange m := by
  obtain ⟨h1, h2⟩ := h 0
  have hu := mem_of_cmp (used m) (congrFun h2 pos1)
  exact ⟨hu.1, hu.2, fun i => lt_of_cmp (expert m i) (congrFun h1 (pos72 i))⟩

/-- The mask of the claim: the rows of the tiles in use. -/
theorem row_of_mask (m : (ℓ : Loc nD τ sig) → Buf (Elt F) ℓ) (hR : InRange m) (c : Dev nD) (j : S36864x2048.Idx)
    (h : Cert.On_used_rows.fn (F := F) (m (c.tc.loc main_arg0)) (m (c.tc.loc main_arg1)) (m (c.tc.loc main_arg2)) (m (c.tc.loc main_arg3))
        (m (c.tc.loc main_arg4)) (m (c.tc.loc main_arg5)) (m (c.tc.loc main_arg6)) j = 1#1) : (j 0).val < cnt m * 512 := by
  obtain rfl : c = 0 := Subsingleton.elim _ _
  have e : Scalar.cmpi .slt (BitVec.ofNat 32 (j 0).val) (Scalar.muli (used m) 512#32) = 1#1 := by
    refine Eq.trans ?_ h
    refine congrArg (Scalar.cmpi .slt (BitVec.ofNat 32 (j 0).val)) (congrArg (fun v => Scalar.muli v 512#32) ?_)
    exact congrArg (m ((0 : Dev nD).tc.loc main_arg1) : S1.Idx → BitVec 32) (funext fun a => by
      obtain rfl : a = (0 : Fin 1) := Subsingleton.elim (α := Fin 1) _ _
      exact Subsingleton.elim (α := Fin 1) _ _)
  obtain ⟨lo, hi, -⟩ := hR
  have hj : (j 0).val < 36864 := (j 0).isLt
  have hm : Scalar.muli (used m) 512#32 = BitVec.ofNat 32 (cnt m * 512) := by
    rw [used_eq]; exact (BitVec.ofNat_mul _ _).symm
  have hw : Scalar.cmpi .slt (BitVec.ofNat 32 (j 0).val) (BitVec.ofNat 32 (cnt m * 512)) = 1#1 ↔ (j 0).val < cnt m * 512 := by
    word_cmp
  rw [hm] at e
  exact hw.1 e

/-! ## The frame at any float type -/

set_option maxHeartbeats 1000000

theorem defs₀_eq : Cert.Moe.defs₀ (F := F) = Cert.MoeIdeal.defs₀ (F := F) := by
  unfold Cert.Moe.defs₀ Cert.MoeIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Moe.defs (F := F) = Cert.MoeIdeal.defs (F := F) := congrArg (Pipeline.defs Cert.MoeIdeal.pcfgs) defs₀_eq

theorem frame_bits (m : (ℓ : Loc Cert.Moe.nD Cert.Moe.τ Cert.Moe.sig) → Buf (Elt F) ℓ) (g : Dev Cert.Moe.nD → PrngReg) (hR : InRange (F := F) m) :
    θ_run (Cert.Moe.defs (F := F)) (onTc (τ := Cert.Moe.τ) (Cert.Moe.main (F := F))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0) := by
  rw [defs_eq]
  exact Cert.MoeIdeal.Routed.frame (F := F) m g hR (ok_of_inRange m hR)

end Cert.MoeIdeal.Routed

end
-- ==== Proof.MoeRef.lean ====
/- The routed feed-forward's reference at one index: the row's normalised values through the one expert its tile names. -/
module

public import proofs.«01_k».proof.Proof.Spec
public import proofs.«01_k».proof.Proof.Gen.MoeRefIdeal.Run
public import proofs.«01_k».proof.Proof.Gen.MoeRefIdeal.Read
public import Idealize.ShloMosaic.Lib.Pipeline.ValueKit

@[expose] public section

set_option maxRecDepth 16384

noncomputable section

open Idealize.ShloMosaic Idealize.ShloMosaic.TcCoe Idealize.SL.Sem

namespace Cert.MoeRefIdeal.Mathematics

open Cert.MoeRefIdeal Cert.Spec

open Facts₀ Facts

variable {F : FTy → Type} [FloatOps F]

/-- Expert `k`'s contribution, as the reference writes it: column `k` of the combine matrix times its feed-forward of the
    rows `u`. -/
def contrib (k : ℕ) (h8 : S36864x8.Slices ![0, k] S36864x1) (h1 : S8x2048x5632.Slices ![k, 0, 0] S1x2048x5632) (h2 : S8x5632x2048.Slices ![k, 0, 0] S1x5632x2048)
    (oh : FVec F S36864x8 .f32) (u : FVec F S36864x2048 .f32) (wg wu : FVec F S8x2048x5632 .bf16) (wd : FVec F S8x5632x2048 .bf16) : FVec F S36864x2048 .f32 :=
  let d : FVec F S36864x5632 .f32 := Host.dotGeneral dot_S36864x2048_S2048x5632_S36864x5632_1_0_0_1_n_n none u (extf .f32 (shapeCast _ (extractStridedSlice S1x2048x5632 ![k, 0, 0] wg h1) shapeCasts_S1x2048x5632_S2048x5632) bitsLt_bf16_f32)
  mulf (broadcastInDim S36864x2048 ![0, 1] bcast_S36864x1_S36864x2048_0_1 (extractStridedSlice S36864x1 ![0, k] oh h8))
    (Host.dotGeneral dot_S36864x5632_S5632x2048_S36864x2048_1_0_0_1_n_n none
      (mulf (mulf d (Host.divf (broadcastInDim S36864x5632 ![] bcast_S_S36864x5632 (constant S_ .f32 0x3F800000#32)) (addf (broadcastInDim S36864x5632 ![] bcast_S_S36864x5632 (constant S_ .f32 0x3F800000#32)) (Host.exp (Host.negf d)))))
        (Host.dotGeneral dot_S36864x2048_S2048x5632_S36864x5632_1_0_0_1_n_n none u (extf .f32 (shapeCast _ (extractStridedSlice S1x2048x5632 ![k, 0, 0] wu h1) shapeCasts_S1x2048x5632_S2048x5632) bitsLt_bf16_f32)))
      (extf .f32 (shapeCast _ (extractStridedSlice S1x5632x2048 ![k, 0, 0] wd h2) shapeCasts_S1x5632x2048_S5632x2048) bitsLt_bf16_f32))

/-- The experts' contributions added up one after the other. -/
def total (oh : FVec F S36864x8 .f32) (u : FVec F S36864x2048 .f32) (wg wu : FVec F S8x2048x5632 .bf16) (wd : FVec F S8x5632x2048 .bf16) : FVec F S36864x2048 .f32 :=
  addf (addf (addf (addf (addf (addf (addf (addf (broadcastInDim S36864x2048 ![] bcast_S_S36864x2048 (constant S_ .f32 0x00000000#32))
      (contrib 0 slices_S36864x8_S36864x1_0_0 slices_S8x2048x5632_S1x2048x5632_0_0_0 slices_S8x5632x2048_S1x5632x2048_0_0_0 oh u wg wu wd))
      (contrib 1 slices_S36864x8_S36864x1_0_1 slices_S8x2048x5632_S1x2048x5632_1_0_0 slices_S8x5632x2048_S1x5632x2048_1_0_0 oh u wg wu wd))
      (contrib 2 slices_S36864x8_S36864x1_0_2 slices_S8x2048x5632_S1x2048x5632_2_0_0 slices_S8x5632x2048_S1x5632x2048_2_0_0 oh u wg wu wd))
      (contrib 3 slices_S36864x8_S36864x1_0_3 slices_S8x2048x5632_S1x2048x5632_3_0_0 slices_S8x5632x2048_S1x5632x2048_3_0_0 oh u wg wu wd))
      (contrib 4 slices_S36864x8_S36864x1_0_4 slices_S8x2048x5632_S1x2048x5632_4_0_0 slices_S8x5632x2048_S1x5632x2048_4_0_0 oh u wg wu wd))
      (contrib 5 slices_S36864x8_S36864x1_0_5 slices_S8x2048x5632_S1x2048x5632_5_0_0 slices_S8x5632x2048_S1x5632x2048_5_0_0 oh u wg wu wd))
      (contrib 6 slices_S36864x8_S36864x1_0_6 slices_S8x2048x5632_S1x2048x5632_6_0_0 slices_S8x5632x2048_S1x5632x2048_6_0_0 oh u wg wu wd))
      (contrib 7 slices_S36864x8_S36864x1_0_7 slices_S8x2048x5632_S1x2048x5632_7_0_0 slices_S8x5632x2048_S1x5632x2048_7_0_0 oh u wg wu wd)

theorem val_eq (te : IVec S72 32) (hs : FVec F S36864x2048 .f32) (g : FVec F S1x2048 .f32)
    (wg wu : FVec F S8x2048x5632 .bf16) (wd : FVec F S8x5632x2048 .bf16) :
    Read.val_main_v162 (F := F) te hs g wg wu wd = total (Read.val_main_v17 (F := F) te) (Read.val_main_v13 (F := F) hs g) wg wu wd := rfl

theorem contrib_at (k : Fin 8) (h8 : S36864x8.Slices ![0, k.val] S36864x1) (h1 : S8x2048x5632.Slices ![k.val, 0, 0] S1x2048x5632) (h2 : S8x5632x2048.Slices ![k.val, 0, 0] S1x5632x2048)
    (oh : FVec Ideal S36864x8 .f32) (u : FVec Ideal S36864x2048 .f32) (wg wu : FVec Ideal S8x2048x5632 .bf16) (wd : FVec Ideal S8x5632x2048 .bf16) (j : S36864x2048.Idx) :
    contrib (F := Ideal) k.val h8 h1 h2 oh u wg wu wd j
      = oh (ix2 (j 0) k) * ∑ f : Fin 5632, hid (fun x => u (ix2 (j 0) x)) (fun x => wg (ix3 k x f)) (fun x => wu (ix3 k x f)) * wd (ix3 k f (j 1)) := by
  unfold contrib
  pointwise
  rfl

/-- Expert `k`'s feed-forward of a row `u`, in column `n`. -/
def expertAt (u : Fin 2048 → EReal) (wg wu : FVec Ideal S8x2048x5632 .bf16) (wd : FVec Ideal S8x5632x2048 .bf16) (k : Fin 8) (n : Fin 2048) : EReal :=
  ∑ f : Fin 5632, hid u (fun x => wg (ix3 k x f)) (fun x => wu (ix3 k x f)) * wd (ix3 k f n)

theorem total_at (oh : FVec Ideal S36864x8 .f32) (u : FVec Ideal S36864x2048 .f32) (wg wu : FVec Ideal S8x2048x5632 .bf16) (wd : FVec Ideal S8x5632x2048 .bf16) (j : S36864x2048.Idx) :
    total (F := Ideal) oh u wg wu wd j = ∑ k : Fin 8, oh (ix2 (j 0) k) * expertAt (fun x => u (ix2 (j 0) x)) wg wu wd k (j 1) := by
  have h := fun k h8 h1 h2 => contrib_at k h8 h1 h2 oh u wg wu wd j
  rw [Fin.sum_univ_eight]
  have z : broadcastInDim S36864x2048 ![] bcast_S_S36864x2048 (constant (F := Ideal) S_ .f32 0x00000000#32) j = (0 : EReal) := by pointwise
  have p {a b c d : EReal} (h₁ : a = b) (h₂ : c = d) : a + c = b + d := by rw [h₁, h₂]
  exact p (p (p (p (p (p (p ((congrArg₂ (fun a b : EReal => a + b) z (h 0 _ _ _)).trans (zero_add _)) (h 1 _ _ _)) (h 2 _ _ _)) (h 3 _ _ _)) (h 4 _ _ _)) (h 5 _ _ _)) (h 6 _ _ _)) (h 7 _ _ _)

theorem rows_at (hs : FVec Ideal S36864x2048 .f32) (g : FVec Ideal S1x2048 .f32) (r : Fin 36864) (k : Fin 2048) :
    Read.val_main_v13 (F := Ideal) hs g (ix2 r k) = nrm (fun x => hs (ix2 r x)) (fun x => g (ix2 0 x)) k := by
  unfold Read.val_main_v13 Read.val_main_v12 Read.val_main_v11 Read.val_main_v10 Read.val_main_v9 Read.val_main_v8 Read.val_main_v7 Read.val_main_v6
    Read.val_main_v5 Read.val_main_v4 Read.val_main_v3 Read.val_main_v2 Read.val_main_v1 Read.val_main_v0 Read.val_main_cst Read.val_main_cst_0 Read.val_main_cst_1
  pointwise
  rfl

/-- The combine matrix: one where the row's tile names the column's expert, zero elsewhere. -/
theorem onehot_at (te : IVec S72 32) (r : Fin 36864) (k : Fin 8) :
    Read.val_main_v17 (F := Ideal) te (ix2 r k) = if te (ix1 ⟨r.val / 512, by omega⟩) = BitVec.ofNat 32 k.val then (1 : EReal) else 0 := by
  rw [Read.val_main_v17_apply, Read.val_main_call0_v4_apply, Read.val_main_call0_v2_apply, Read.val_main_call0_v3_apply, Read.val_main_call0_v1_apply,
    Read.val_main_call0_v0_apply, Read.val_main_v16_apply, Read.val_main_v15_apply, Read.val_main_v14_apply]
  have hi : Read.idx_main_v14 (Read.idx_main_v15 (Read.idx_main_v16 (Read.idx_main_call0_v0 (Read.idx_main_call0_v2 (ix2 r k))))) = ix1 ⟨r.val / 512, by omega⟩ :=
    funext fun a => Fin.ext (by obtain rfl : a = (0 : Fin 1) := Subsingleton.elim (α := Fin 1) _ _; rfl)
  have hk : (Read.idx_main_call0_v3 (ix2 r k) 1).val = k.val := rfl
  rw [hi, hk]
  by_cases h : te (ix1 ⟨r.val / 512, by omega⟩) = BitVec.ofNat 32 k.val
  · rw [if_pos h, h]
    unfold IntOp.cmpi
    simp only [beq_self_eq_true, BitVec.ofBool_true]
    show (((1#1 : BitVec 1).toNat : ℝ) : EReal) = 1
    simp
  · rw [if_neg h]
    unfold IntOp.cmpi
    simp only [beq_eq_false_iff_ne.mpr h, BitVec.ofBool_false]
    show (((0#1 : BitVec 1).toNat : ℝ) : EReal) = 0
    simp

/-- The reference at a row of tile `i`, whose expert is `e`. -/
theorem ref_at (te : IVec S72 32) (hs : FVec Ideal S36864x2048 .f32) (g : FVec Ideal S1x2048 .f32)
    (wg wu : FVec Ideal S8x2048x5632 .bf16) (wd : FVec Ideal S8x5632x2048 .bf16) (r : Fin 36864) (n : Fin 2048) (e : Fin 8)
    (he : te (ix1 ⟨r.val / 512, by omega⟩) = BitVec.ofNat 32 e.val) :
    Read.val_main_v162 (F := Ideal) te hs g wg wu wd (ix2 r n)
      = expertAt (nrm (fun x => hs (ix2 r x)) (fun x => g (ix2 0 x))) wg wu wd e n := by
  rw [val_eq, total_at]
  refine (Finset.sum_eq_single e (fun k _ hk => ?_) (fun h => absurd (Finset.mem_univ e) h)).trans ?_
  · show Read.val_main_v17 (F := Ideal) te (ix2 r k) * _ = 0
    rw [onehot_at, he, if_neg fun h => hk (Fin.ext ?_), zero_mul]
    have := congrArg BitVec.toNat h
    rw [BitVec.toNat_ofNat, BitVec.toNat_ofNat, Nat.mod_eq_of_lt (by omega), Nat.mod_eq_of_lt (by omega)] at this
    exact this.symm
  · show Read.val_main_v17 (F := Ideal) te (ix2 r e) * expertAt (fun x => Read.val_main_v13 (F := Ideal) hs g (ix2 r x)) wg wu wd e n = _
    rw [onehot_at, he, if_pos rfl, one_mul]
    exact congrArg (fun u => expertAt u wg wu wd e n) (funext fun k => rows_at hs g r k)

end Cert.MoeRefIdeal.Mathematics

end
-- ==== Proof.MoeValue.lean ====
/- The routed feed-forward's value: on the rows of the tiles in use, the kernel's result is the reference's. -/
module

public import proofs.«01_k».proof.Proof.MoeFrame
public import proofs.«01_k».proof.Proof.MoeRef
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.MoeIdeal.Mathematics

open Cert.MoeIdeal Cert.MoeIdeal.Gen Cert.MoeIdeal.Routed Cert.Spec
open Cert.MoeRefIdeal.Mathematics (expertAt ref_at)

theorem pay1_at (h : FVec Ideal S512x2048 .f32) (g : FVec Ideal S1x2048 .f32) (r : Fin 512) (k : Fin 2048) :
    k0_pay1 (F := Ideal) h g (ix2 r k) = nrm (fun x => h (ix2 r x)) (fun x => g (ix2 0 x)) k := by
  pointwise [k0_pay1]
  rfl

theorem pay2_at (j : S512x2048.Idx) : k0_pay2 (F := Ideal) j = 0 := by
  pointwise [k0_pay2]

theorem pay3_at (acc : FVec Ideal S512x2048 .f32) (xn : FVec Ideal S512x2048 .bf16) (wg wu : FVec Ideal S1x2048x512 .bf16)
    (wd : FVec Ideal S1x512x2048 .bf16) (r : Fin 512) (n : Fin 2048) :
    k0_pay3 (F := Ideal) acc xn wg wu wd (ix2 r n) = acc (ix2 r n) + ∑ f : Fin 512,
      hid (fun k => xn (ix2 r k)) (fun k => wg (ix3 0 k f)) (fun k => wu (ix3 0 k f)) * wd (ix3 0 f n) := by
  pointwise [k0_pay3]
  rfl

variable (m : (ℓ : Loc nD τ sig) → Buf (Elt Ideal) ℓ)

/-! ## The blocks of a tile in use, as reads of the argument arrays -/

section Blocks

variable (hR : InRange m) (hO : Ok m) (c : Dev nD) (i : Fin 72) (s : Fin 11)

/-- The point of slice `s` of tile `i`. -/
def pt : Fin (cfgM m hO).N := ⟨11 * i.val + s.val, Nat.lt_of_lt_of_eq (by omega) N_0.symm⟩

/-- The expert of tile `i`. -/
def ex : Fin 8 := ⟨(expert m i).toNat, hR.ex i⟩

/-- Row `r` of tile `i`, and column `f` of slice `s`. -/
def row (i : Fin 72) (r : Fin 512) : Fin 36864 := ⟨i.val * 512 + r.val, by omega⟩
def col (s : Fin 11) (f : Fin 512) : Fin 5632 := ⟨s.val * 512 + f.val, by omega⟩

theorem pt_coords : (grid0.coords (pt m hO i s) 0).val = i.val ∧ (grid0.coords (pt m hO i s) 1).val = s.val :=
  ⟨(coords_0 _).trans (show (11 * i.val + s.val) / 11 = i.val by omega), (coords_1 _).trans (show (11 * i.val + s.val) % 11 = s.val by omega)⟩

include hR

theorem at_rows (hi : i.val < cnt m) : ((cfgM m hO).win 0).index (pt m hO i s) = ![i.val, 0] := by
  refine (ix_rows m hR (grid0.coords (pt m hO i s)) _ _).trans ?_
  rw [(pt_coords m hO i s).1, Nat.min_eq_left (by omega)]

theorem at_slice (hi : i.val < cnt m) : slice m (grid0.coords (pt m hO i s)) = s.val := by
  unfold slice
  rw [(pt_coords m hO i s).1, (pt_coords m hO i s).2, if_pos hi]

theorem at_ex (h) : (expert m ⟨(grid0.coords (pt m hO i s) 0).val, h⟩).toNat = (ex m hR i).val :=
  congrArg (fun k => (expert m k).toNat) (Fin.ext (pt_coords m hO i s).1)

theorem at_gate (hi : i.val < cnt m) : ((cfgM m hO).win 2).index (pt m hO i s) = ![(ex m hR i).val, 0, s.val] := by
  exact (ix_gate m hR (grid0.coords (pt m hO i s)) _ _ _).trans
    (congrArg₂ (fun a b : ℕ => ![a, 0, b]) (at_ex m hR hO i s _) (at_slice m hR hO i s hi))

theorem at_up (hi : i.val < cnt m) : ((cfgM m hO).win 3).index (pt m hO i s) = ![(ex m hR i).val, 0, s.val] := by
  exact (ix_up m hR (grid0.coords (pt m hO i s)) _ _ _).trans
    (congrArg₂ (fun a b : ℕ => ![a, 0, b]) (at_ex m hR hO i s _) (at_slice m hR hO i s hi))

theorem at_down (hi : i.val < cnt m) : ((cfgM m hO).win 4).index (pt m hO i s) = ![(ex m hR i).val, s.val, 0] := by
  exact (ix_down m hR (grid0.coords (pt m hO i s)) _ _ _).trans
    (congrArg₂ (fun a b : ℕ => ![a, b, 0]) (at_ex m hR hO i s _) (at_slice m hR hO i s hi))

theorem rd0 (hi : i.val < cnt m) (r : Fin 512) (x : Fin 2048) :
    (show FVec Ideal S512x2048 .f32 from iblk m hO c 0 (pt m hO i s)) (ix2 r x)
      = (m ((c : Thread nD τ).loc main_arg2) : FVec Ideal S36864x2048 .f32) (ix2 (row i r) x) := by
  have e := at_rows m hR hO i s hi
  blk_ext [iblk, V, row, e]

omit hR in
theorem rd1 (x : Fin 2048) :
    (show FVec Ideal S1x2048 .f32 from iblk m hO c 1 (pt m hO i s)) (ix2 0 x)
      = (m ((c : Thread nD τ).loc main_arg3) : FVec Ideal S1x2048 .f32) (ix2 0 x) := by
  have e : ((cfgM m hO).win 1).index (pt m hO i s) = ![0, 0] := rfl
  blk_ext [iblk, V, e]

theorem rd2 (hi : i.val < cnt m) (k : Fin 2048) (f : Fin 512) :
    (show FVec Ideal S1x2048x512 .bf16 from iblk m hO c 2 (pt m hO i s)) (ix3 0 k f)
      = (m ((c : Thread nD τ).loc main_arg4) : FVec Ideal S8x2048x5632 .bf16) (ix3 (ex m hR i) k (col s f)) := by
  have e := at_gate m hR hO i s hi
  blk_ext [iblk, V, col, e]

theorem rd3 (hi : i.val < cnt m) (k : Fin 2048) (f : Fin 512) :
    (show FVec Ideal S1x2048x512 .bf16 from iblk m hO c 3 (pt m hO i s)) (ix3 0 k f)
      = (m ((c : Thread nD τ).loc main_arg5) : FVec Ideal S8x2048x5632 .bf16) (ix3 (ex m hR i) k (col s f)) := by
  have e := at_up m hR hO i s hi
  blk_ext [iblk, V, col, e]

theorem rd4 (hi : i.val < cnt m) (f : Fin 512) (n : Fin 2048) :
    (show FVec Ideal S1x512x2048 .bf16 from iblk m hO c 4 (pt m hO i s)) (ix3 0 f n)
      = (m ((c : Thread nD τ).loc main_arg6) : FVec Ideal S8x5632x2048 .bf16) (ix3 (ex m hR i) (col s f) n) := by
  have e := at_down m hR hO i s hi
  blk_ext [iblk, V, col, e]

end Blocks

/-! ## What the accumulator holds after each slice of a tile in use -/

section Sums

attribute [local irreducible] st

variable (hR : InRange m) (hO : Ok m) (c : Dev nD) (i : Fin 72)

/-- A row of the tile, normed. -/
def xn (r : Fin 512) (k : Fin 2048) : EReal :=
  nrm (fun x => (m ((c : Thread nD τ).loc main_arg2) : FVec Ideal S36864x2048 .f32) (ix2 (row i r) x))
    (fun x => (m ((c : Thread nD τ).loc main_arg3) : FVec Ideal S1x2048 .f32) (ix2 0 x)) k

/-- One column of the hidden width's share of the tile's row `r`, column `n`. -/
def term (r : Fin 512) (n : Fin 2048) (f : Fin 5632) : EReal :=
  hid (xn m c i r) (fun k => (m ((c : Thread nD τ).loc main_arg4) : FVec Ideal S8x2048x5632 .bf16) (ix3 (ex m hR i) k f))
      (fun k => (m ((c : Thread nD τ).loc main_arg5) : FVec Ideal S8x2048x5632 .bf16) (ix3 (ex m hR i) k f))
    * (m ((c : Thread nD τ).loc main_arg6) : FVec Ideal S8x5632x2048 .bf16) (ix3 (ex m hR i) f n)

/-- Slice `s`'s share. -/
def part (r : Fin 512) (n : Fin 2048) (s : ℕ) : EReal := if h : s < 11 then ∑ f : Fin 512, term m hR c i r n (col ⟨s, h⟩ f) else 0

include hR

theorem norm_at (hi : i.val < cnt m) (s : Fin 11) (r : Fin 512) (k : Fin 2048) :
    k0_pay1 (F := Ideal) (iblk m hO c 0 (pt m hO i s)) (iblk m hO c 1 (pt m hO i s)) (ix2 r k) = xn m c i r k :=
  (pay1_at _ _ r k).trans (congrArg₂ (fun a b => nrm a b k) (funext fun x => rd0 m hR hO c i s hi r x) (funext fun x => rd1 m hO c i s x))

theorem part_at (hi : i.val < cnt m) (s : Fin 11) (u : FVec Ideal S512x2048 .bf16) (acc : FVec Ideal S512x2048 .f32) (r : Fin 512)
    (hu : ∀ k, u (ix2 r k) = xn m c i r k) (n : Fin 2048) :
    k0_pay3 (F := Ideal) acc u (iblk m hO c 2 (pt m hO i s)) (iblk m hO c 3 (pt m hO i s)) (iblk m hO c 4 (pt m hO i s)) (ix2 r n)
      = acc (ix2 r n) + part m hR c i r n s.val := by
  refine (pay3_at _ _ _ _ _ r n).trans (congrArg (acc (ix2 r n) + ·) ?_)
  rw [part, dif_pos s.isLt]
  refine Finset.sum_congr rfl fun f _ => congrArg₂ (fun a b : EReal => a * b) (congr (congrArg₂ hid ?_ ?_) ?_) ?_
  · exact funext hu
  · exact funext fun k => rd2 m hR hO c i s hi k f
  · exact funext fun k => rd3 m hR hO c i s hi k f
  · exact rd4 m hR hO c i s hi f n

section Next

variable (p : grid0.Coords) (v : BitVec 32) (x0 : Vec Ideal S512x2048 .f32) (x1 : Vec Ideal S1x2048 .f32)
    (x2 x3 : Vec Ideal S1x2048x512 .bf16) (x4 : Vec Ideal S1x512x2048 .bf16) (q : Held Ideal)

omit hR in
theorem fresh (hu : Used p v) (hf : First p) :
    (next p v x0 x1 x2 x3 x4 q).1 = k0_pay1 x0 x1 ∧ (next p v x0 x1 x2 x3 x4 q).2.1 = k0_pay3 k0_pay2 (k0_pay1 x0 x1) x2 x3 x4 := by
  unfold next; rw [if_pos hu, if_pos hf]; exact ⟨rfl, rfl⟩

omit hR in
theorem more (hu : Used p v) (hf : ¬ First p) :
    (next p v x0 x1 x2 x3 x4 q).1 = q.1 ∧ (next p v x0 x1 x2 x3 x4 q).2.1 = k0_pay3 q.2.1 q.1 x2 x3 x4 := by
  unfold next; rw [if_pos hu, if_neg hf]; split <;> exact ⟨rfl, rfl⟩

end Next

theorem used_pt (hi : i.val < cnt m) (s : Fin 11) : Used (grid0.coords (pt m hO i s)) (used m) :=
  (used_iff m hR _).2 (by show (11 * i.val + s.val) / 11 < cnt m; omega)

/-- The first slice of a tile in use, and each further one. -/
theorem held_first (hi : i.val < cnt m) (r : Fin 512) :
    (∀ k, (st m hO c (11 * i.val + 1)).1 (ix2 r k) = xn m c i r k)
      ∧ ∀ n, (st m hO c (11 * i.val + 1)).2.1 (ix2 r n) = part m hR c i r n 0 := by
  have hs : st m hO c (11 * i.val + 1) = _ := st_succ m hO c (pt m hO i 0)
  obtain ⟨e1, e2⟩ := fresh _ _ (iblk m hO c 0 (pt m hO i 0)) (iblk m hO c 1 (pt m hO i 0)) (iblk m hO c 2 (pt m hO i 0))
    (iblk m hO c 3 (pt m hO i 0)) (iblk m hO c 4 (pt m hO i 0)) (st m hO c (pt m hO i 0).val) (used_pt m hR hO i hi 0)
    ((first_iff _).2 (show (11 * i.val + 0) % 11 = 0 by omega))
  have h1 := (congrArg (fun q => q.1) hs).trans e1
  have h2 := (congrArg (fun q => q.2.1) hs).trans e2
  refine ⟨fun k => (congrFun h1 _).trans (norm_at m hR hO c i hi 0 r k), fun n => (congrFun h2 _).trans ?_⟩
  refine (part_at m hR hO c i hi 0 _ _ r (fun k => norm_at m hR hO c i hi 0 r k) n).trans ?_
  rw [pay2_at, zero_add]; rfl

theorem held_next (hi : i.val < cnt m) (r : Fin 512) (j : ℕ) (hj : j + 1 < 11)
    (h : ∀ k, (st m hO c (11 * i.val + j + 1)).1 (ix2 r k) = xn m c i r k) :
    (∀ k, (st m hO c (11 * i.val + (j + 1) + 1)).1 (ix2 r k) = xn m c i r k)
      ∧ ∀ n, (st m hO c (11 * i.val + (j + 1) + 1)).2.1 (ix2 r n)
          = (st m hO c (11 * i.val + j + 1)).2.1 (ix2 r n) + part m hR c i r n (j + 1) := by
  have hs : st m hO c (11 * i.val + (j + 1) + 1) = _ := st_succ m hO c (pt m hO i ⟨j + 1, hj⟩)
  obtain ⟨e1, e2⟩ := more _ _ (iblk m hO c 0 (pt m hO i ⟨j + 1, hj⟩)) (iblk m hO c 1 (pt m hO i ⟨j + 1, hj⟩))
    (iblk m hO c 2 (pt m hO i ⟨j + 1, hj⟩)) (iblk m hO c 3 (pt m hO i ⟨j + 1, hj⟩)) (iblk m hO c 4 (pt m hO i ⟨j + 1, hj⟩))
    (st m hO c (pt m hO i ⟨j + 1, hj⟩).val) (used_pt m hR hO i hi ⟨j + 1, hj⟩)
    (fun h => absurd ((first_iff _).1 h) (show ¬ (11 * i.val + (j + 1)) % 11 = 0 by omega))
  have h1 := (congrArg (fun q => q.1) hs).trans e1
  have h2 := (congrArg (fun q => q.2.1) hs).trans e2
  exact ⟨fun k => (congrFun h1 _).trans (h k), fun n => (congrFun h2 _).trans (part_at m hR hO c i hi ⟨j + 1, hj⟩ _ _ r h n)⟩

theorem held_at (hi : i.val < cnt m) (r : Fin 512) (j : ℕ) (hj : j < 11) :
    (∀ k, (st m hO c (11 * i.val + j + 1)).1 (ix2 r k) = xn m c i r k)
      ∧ ∀ n, (st m hO c (11 * i.val + j + 1)).2.1 (ix2 r n) = ∑ s ∈ Finset.range (j + 1), part m hR c i r n s := by
  induction j with
  | zero =>
    obtain ⟨h1, h2⟩ := held_first m hR hO c i hi r
    exact ⟨h1, fun n => (h2 n).trans (Finset.sum_range_one _).symm⟩
  | succ j ih =>
    obtain ⟨h1, h2⟩ := ih (by omega)
    obtain ⟨h3, h4⟩ := held_next m hR hO c i hi r j hj h1
    exact ⟨h3, fun n => (h4 n).trans (by rw [h2, Finset.sum_range_succ _ (j + 1)])⟩

/-- A tile's accumulator, when the tile is done, is its expert's feed-forward of its rows. -/
theorem done_at (hi : i.val < cnt m) (r : Fin 512) (n : Fin 2048) :
    done m hO c i.val (ix2 r n) = expertAt (xn m c i r) (m ((c : Thread nD τ).loc main_arg4)) (m ((c : Thread nD τ).loc main_arg5))
      (m ((c : Thread nD τ).loc main_arg6)) (ex m hR i) n := by
  refine ((held_at m hR hO c i hi r 10 (by omega)).2 n).trans ?_
  rw [Finset.sum_range]
  refine Eq.trans (Finset.sum_congr rfl fun s _ => dif_pos s.isLt) ?_
  exact Fin.sum_mul_add_congr (f := term m hR c i r n) (F := fun s k => term m hR c i r n (col s k)) fun s k hl => rfl

end Sums

section Result

variable (hR : InRange m) (hO : Ok m) (c : Dev nD)

include hR

theorem at_out (t : Fin (cfgM m hO).N) : ((cfgM m hO).win 5).index t = ![min (t.val / 11) (cnt m - 1), 0] := by
  rw [← coords_0]; exact ix_out m hR (grid0.coords t) _ _

/-- The blocks and the rows that are written. -/
def Tiles (β : Fin 2 → ℕ) : Prop := β 0 < cnt m
def Rows (j : S36864x2048.Idx) : Prop := (j 0).val < cnt m * 512
instance : DecidablePred (Tiles m) := fun _ => inferInstanceAs (Decidable (_ < _))
instance : DecidablePred (Rows m) := fun _ => inferInstanceAs (Decidable (_ < _))

theorem coversOut : ((cfgM m hO).win 5).CoversWhere (Tiles m) := by
  obtain ⟨lo, hi, -⟩ := id hR
  refine ⟨(by decide : ∀ a : Fin 2, 0 < S512x2048.size a), fun t hf => ⟨?_, fun a => ?_⟩, fun β hβ => ?_⟩
  · rw [at_out m hR hO t]; show min (t.val / 11) (cnt m - 1) < cnt m; omega
  · exact ((cfgM m hO).win 5).xsize_eq_or_end rfl (grid0.coords t) a
  · have h0 : (β (0 : Fin 2)).val < cnt m := hβ
    have h1 : (β (1 : Fin 2)).val = 0 := Nat.lt_one_iff.1 (Nat.lt_of_lt_of_eq (β (1 : Fin 2)).isLt (show (2048 + 2048 - 1) / 2048 = 1 from rfl))
    by_cases hb : (β (0 : Fin 2)).val + 1 < cnt m
    · refine ⟨⟨11 * (β (0 : Fin 2)).val + 10, Nat.lt_of_lt_of_eq (by omega) N_0.symm⟩, fun a => ?_, (flush_out m hR hO _).2 (.inr ⟨?_, ?_⟩)⟩
      · rw [at_out m hR hO _]
        revert a
        show ∀ a : Fin 2, _
        intro a
        match a with
        | 0 => show min ((11 * (β (0 : Fin 2)).val + 10) / 11) (cnt m - 1) = (β (0 : Fin 2)).val; omega
        | 1 => exact h1.symm
      · show (11 * (β (0 : Fin 2)).val + 10) % 11 = 10; omega
      · show (11 * (β (0 : Fin 2)).val + 10) / 11 + 1 < cnt m; omega
    · refine ⟨⟨791, Nat.lt_of_lt_of_eq (by omega) N_0.symm⟩, fun a => ?_, (flush_out m hR hO _).2 (.inl rfl)⟩
      rw [at_out m hR hO _]
      revert a
      show ∀ a : Fin 2, _
      intro a
      match a with
      | 0 => show min (791 / 11) (cnt m - 1) = (β (0 : Fin 2)).val; omega
      | 1 => exact h1.symm

/-- The reference at a row of a tile in use. -/
theorem ref_row (i : Fin 72) (hi : i.val < cnt m) (r : Fin 512) (n : Fin 2048) :
    Cert.MoeRefIdeal.Read.val_main_v162 (F := Ideal)
      (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)) (ix2 (row i r) n)
      = done m hO c i.val (ix2 r n) := by
  refine (ref_at _ _ _ _ _ _ (row i r) n (ex m hR i) ?_).trans (done_at m hR hO c i hi r n).symm
  obtain rfl : c = 0 := Subsingleton.elim _ _
  have e : (⟨(row i r).val / 512, by omega⟩ : Fin 72) = i := Fin.ext (show (i.val * 512 + r.val) / 512 = i.val by omega)
  have h : expert m i = BitVec.ofNat 32 (ex m hR i).val := by
    show _ = BitVec.ofNat 32 (expert m i).toNat
    rw [BitVec.ofNat_toNat, BitVec.setWidth_eq]
  refine Eq.trans ?_ h
  show (m (((0 : Dev nD) : Thread nD τ).loc main_arg0) : S72.Idx → BitVec 32) _
    = (m (((0 : Dev nD) : Thread nD τ).loc main_arg0) : S72.Idx → BitVec 32) (pos72 i)
  refine congrArg _ (funext fun a => Fin.ext ?_)
  obtain rfl : a = (0 : Fin 1) := Subsingleton.elim (α := Fin 1) _ _
  exact congrArg Fin.val e

/-- The rows of the tiles in use hold their experts' feed-forwards. -/
theorem final (j : S36864x2048.Idx) (hj : Rows m j) :
    (dats m hO 0 c).arrAt 5 (cfgM m hO).N j = Cert.MoeRefIdeal.Read.val_main_v162 (F := Ideal)
      (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)) j := by
  have hq : Tiles m (((cfgM m hO).win 5).cell j) := by
    have : (j 0).val < cnt m * 512 := hj
    show (j 0).val / 512 < cnt m
    omega
  obtain ⟨t, hf, hi⟩ := ((coversOut m hR hO).covered_iff j).mpr hq
  refine (dats m hO 0 c).arrAt_forall_of_flushed 5 (fun i v => v = Cert.MoeRefIdeal.Read.val_main_v162 (F := Ideal)
      (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)) i)
    (fun t hf y => ?_) _ t _ t.isLt hf hi
  have hc : min (t.val / 11) (cnt m - 1) < cnt m := by have := hR.lo; omega
  blk_simp
  rw [after0_5]
  have ey : y = ix2 (y (0 : Fin 2)) (y (1 : Fin 2)) := funext fun a => by
    revert a
    show ∀ a : Fin 2, _
    intro a
    match a with
    | 0 => rfl
    | 1 => rfl
  have ee : (((cfgM m hO).win 5).blk t).view.emb y = (ix2 (row ⟨min (t.val / 11) (cnt m - 1), by have := hR.hi; omega⟩ (y (0 : Fin 2))) (y (1 : Fin 2)) : S36864x2048.Idx) := by
    have e := at_out m hR hO t
    blk_ext [row, e]
  refine Eq.trans (congrArg (done m hO c _) ey) ((ref_row m hR hO c ⟨min (t.val / 11) (cnt m - 1), by have := hR.hi; omega⟩ hc
    (y (0 : Fin 2)) (y (1 : Fin 2))).symm.trans ?_)
  exact congrArg _ ee.symm

end Result

end Cert.MoeIdeal.Mathematics

end
-- ==== Proof.Groups.lean ====
/- A projection with several results: a row of the grid is twelve points, one for each block of columns, and each result owns a
   range of consecutive blocks. The body stores into a result's buffer at the blocks of its range and leaves it alone at the
   others; the pipeline writes the buffer back when the range moves on and at the row's end. Stated here for any pipeline and
   any range. -/
module

public import Idealize.ShloMosaic.Lib.Pipeline.TableIdle
public import Idealize.ShloMosaic.Lib.Pipeline.ReadBack
public import Idealize.ShloMosaic.Lib.Pipeline.ValueKit

@[expose] public section

noncomputable section

namespace Cert.Groups

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] {nD : Nat} {τ : Topo} {sig : RefSig}

local notation "𝕄" => MT nD τ sig Unit (Elt F) ℕ (UR sig nD τ) ℕ

/-- A buffer written whole last reads as that. -/
theorem read_last {S : Shape} {e : EltTy} {sp : Space} (v : View sig .tc sp S e) (f : v.ty.Contents (Elt F)) {off : Fin S.rank → Nat}
    (inb : ∀ a, off a + S.size a ≤ S.size a) (w : S.Idx → Elt F e) (L : List (View.Piece (Elt F) S e)) (h : ∀ a, off a = 0) :
    v.read (Elt F) (v.writes (Elt F) f (⟨Rect.unit off S.size inb, w⟩ :: L)) = w := by
  obtain rfl : off = fun _ => 0 := funext h
  rw [View.read_writes_of_cover v f v v.junk _ (fun y => ⟨_, List.mem_cons_self, by
    show y ∈ (Rect.whole S).set; rw [Rect.set_whole]; exact Finset.mem_univ y⟩),
    View.read_writes_junk_eq_canon, View.canon_cons_unit_lit inb w L h]

variable {Λ₀ : Labels} {cfg : Cfg sig Λ₀}

/-- Window `w`'s result owns the blocks `l` to `h` of a row. -/
structure Owns (cfg : Cfg sig Λ₀) (w : Fin cfg.W) (l h : ℕ) : Prop where
  le : l ≤ h
  lt : h ≤ 11
  idle : ∀ t : Fin cfg.N, cfg.idle w (cfg.grid.coords t) = !(decide (l ≤ t.val % 12 ∧ t.val % 12 ≤ h))
  flush : ∀ t : Fin cfg.N, (cfg.win w).flush t = decide ((l ≤ t.val % 12 ∧ t.val % 12 < h) ∨ t.val % 12 = 11)

variable {w : Fin cfg.W} {l h : ℕ}

/-- A result's buffer holds nothing stored since its last write-back up to its last block. -/
theorem Owns.fresh (s : Owns cfg w l h) (n : ℕ) (hn : n ≤ cfg.N) : cfg.fresh w n = decide (n % 12 ≤ h) := by
  refine cfg.fresh_tab w (fun n => decide (n % 12 ≤ h)) (by simp) (fun t => ?_) n hn
  rw [s.idle t, s.flush t, Bool.eq_iff_iff]
  have h1 := s.le
  have h2 := s.lt
  simp only [decide_eq_true_eq, Bool.or_eq_true, Bool.and_eq_true, Bool.not_eq_true', decide_eq_false_iff_not]
  omega

/-- An output's buffer that the body stores `v` into where its word `b` says, and leaves alone elsewhere, is left as the
    pipeline asks. -/
theorem Owns.leaves (s : Owns cfg w l h) {c : Dev nD} (dat : Dat τ (Elt F) Unit ℕ (UR sig nD τ) ℕ cfg c) (hw : (cfg.win w).isOut = true)
    (hclip : ∀ (i : cfg.grid.Coords) a, (cfg.win w).clip i a = none)
    (hcarry : ∀ (t : Fin cfg.N) (_ : t.val ≠ 0), h < t.val % 12 → dat.after w t = dat.after w ⟨t.val - 1, by omega⟩)
    (t : Fin cfg.N) (d) (b : BitVec 1) (hb : cfg.idle w (cfg.grid.coords t) = !(b == 1#1)) (v) (hv : b = 1#1 → v = dat.after w t) :
    owns (c : Thread nD τ) ((cfg.win w).stage (cfg.slots t w)) fullShare (if b = 1#1 then v else dat.before w t d) ⊢ (dat.leavesExact w t : sProp 𝕄) := by
  by_cases hb1 : b = 1#1
  · have hi' : cfg.idle w (cfg.grid.coords t) = false := by rw [hb, hb1]; rfl
    rw [if_pos hb1, hv hb1, show dat.leavesExact w t = owns (c : Thread nD τ) ((cfg.win w).stage (cfg.slots t w)) fullShare (dat.after w t) from by
      unfold Dat.leavesExact; rw [hi']]
  · have hi' : cfg.idle w (cfg.grid.coords t) = true := by rw [hb, Bool.not_eq_true', beq_eq_false_iff_ne]; exact hb1
    rw [if_neg hb1]
    by_cases hf : (cfg.win w).flush t = true
    · have h1 := s.le
      have hidle := (s.idle t).symm.trans hi'
      have hflush := (s.flush t).symm.trans hf
      simp only [decide_eq_true_eq, Bool.not_eq_true', decide_eq_false_iff_not] at hidle hflush
      have h2 := s.lt
      have hn : h < t.val % 12 := by omega
      have hfr : cfg.fresh w t.val = false := by
        rw [s.fresh _ (Nat.le_of_lt t.isLt), decide_eq_false_iff_not]; omega
      rw [show dat.leavesExact w t = owns (c : Thread nD τ) ((cfg.win w).stage (cfg.slots t w)) fullShare (dat.after w t) from by
        unfold Dat.leavesExact; rw [hi', hf]]
      rw [dat.before_out_traj w hw hclip (fun q hq _ hfr => hcarry q hq (by
        rw [s.fresh _ (Nat.le_of_lt q.isLt), decide_eq_false_iff_not] at hfr; omega)) t.val t rfl d, hfr, if_neg Bool.false_ne_true,
        ← hcarry t (by rintro h0; rw [h0] at hn; simp at hn) hn]
    · rw [Dat.leavesExact_idle dat w t hi' (by simpa using hf)]
      iintro H; iexists d; iexact H

/-! ## The point a buffer holds -/

/-- The point whose block the buffer of the range `l` to `h` holds after point `t`, once one has been stored in the row;
    for the range of block 0 alone, the row's first point. -/
def pt {N : ℕ} (hN : N % 12 = 0) (l h : ℕ) (t : Fin N) : Fin N :=
  ⟨t.val - t.val % 12 + (min l 11 + (min (min h 11) (t.val % 12) - min l 11)), by have := t.isLt; omega⟩

section

variable {N : ℕ} (hN : N % 12 = 0) (t : Fin N)

/-- Every such point is in the same row. -/
theorem pt_row (l h : ℕ) : (pt hN l h t).val / 12 = t.val / 12 := by unfold pt; dsimp only; omega

/-- Past a range's last block its buffer keeps what it holds; -/
theorem pt_carry (l h : ℕ) (hlh : l ≤ h) (hh : h < t.val % 12) : pt hN l h t = pt hN l h ⟨t.val - 1, by omega⟩ := by
  apply Fin.ext
  unfold pt
  dsimp only
  omega

/-- at a range's own blocks it gets the point's. -/
theorem pt_live (l h : ℕ) (hh : h ≤ 11) (hl : l ≤ t.val % 12 ∧ t.val % 12 ≤ h) : pt hN l h t = t := by
  apply Fin.ext
  unfold pt
  dsimp only
  omega

end

/-- Where a window's word is set, the point's block is one of its own. -/
theorem Owns.live (s : Owns cfg w l h) (hN : cfg.N % 12 = 0) (t : Fin cfg.N) (b : BitVec 1)
    (hb : cfg.idle w (cfg.grid.coords t) = !(b == 1#1)) (hb1 : b = 1#1) : pt hN l h t = t := by
  refine pt_live hN t l h s.lt ?_
  have e := (s.idle t).symm.trans hb
  rw [hb1] at e
  simpa using e

/-- At a write-back the buffer holds the block of its range that the point belongs to, or its last. -/
theorem Owns.pt_flush (s : Owns cfg w l h) (hN : cfg.N % 12 = 0) (t : Fin cfg.N) (hf : (cfg.win w).flush t = true) :
    (pt hN l h t).val % 12 = l + min (h - l) (t.val % 12 - l) := by
  have e := (s.flush t).symm.trans hf
  have h1 := s.le
  have h2 := s.lt
  simp only [decide_eq_true_eq] at e
  unfold pt
  dsimp only
  omega

/-! ## The even layer's windows: seven results after five inputs -/

/-- The first and the last block of columns stored into window `w`'s result (the forget gates: at the first block). -/
def lo (w : Fin 12) : ℕ := if w = 11 then 0 else 2 * (w.val - 5)
def hi (w : Fin 12) : ℕ := if w = 11 then 0 else 2 * (w.val - 5) + 1

theorem lo_hi : ∀ w : Fin 12, lo w ≤ hi w := by decide
theorem hi_le : ∀ w : Fin 12, 5 ≤ w.val → hi w ≤ 11 := by decide

/-- A column of the regrouped weights among the columns of all: the eight forget columns stand between. -/
def wide (n : Fin 6144) : Fin 6152 := if n.val < 3072 then ⟨n.val, by omega⟩ else ⟨n.val + 8, by omega⟩

theorem wide_val (n : Fin 6144) : (wide n).val = if n.val < 3072 then n.val else n.val + 8 := by
  unfold wide; split <;> rfl

/-- The columns of a main result's half, among the columns of all. -/
theorem wide_half (w : Fin 12) (h5 : 5 ≤ w.val) (hw : w.val < 11) (q n j : ℕ) (hq : q = lo w + min (hi w - lo w) (j - lo w)) (hn : n < 512) :
    (if q * 512 + n < 3072 then q * 512 + n else q * 512 + n + 8)
      = (if w.val < 8 then 1024 * (w.val - 5) else 1024 * (w.val - 5) + 8) + (min 1 (j - lo w) * 512 + n) := by
  have hlo : lo w = 2 * (w.val - 5) ∧ hi w = lo w + 1 := by
    unfold lo hi
    rw [if_neg (by rintro rfl; simp at hw), if_neg (by rintro rfl; simp at hw)]
    exact ⟨rfl, rfl⟩
  split <;> split <;> omega

theorem half_lt (j : ℕ) (n : Fin 512) : min 1 j * 512 + n.val < 1024 := by omega

end Cert.Groups

end
-- ==== Proof.NormKernel.lean ====
/- The even layer's projections: the body at one grid point. A point belongs to a tile of rows (grid coordinate 0) and to
   a block of 512 columns (grid coordinate 1, twelve of them, two for each of the six results). At the first block the
   body normalises the tile's rows into the scratch buffer and writes the tile's forget gates; at every block it stores
   the rows' product with the block's weights into the result the block belongs to. -/
module

public import proofs.«01_k».proof.Proof.Gen.NormIdeal.Frame
public import proofs.«01_k».proof.Proof.Gen.NormIdeal.Skeleton
public import proofs.«01_k».proof.Proof.Groups

@[expose] public section

set_option maxRecDepth 16384
set_option synthInstance.maxSize 4096
set_option synthInstance.maxHeartbeats 400000
set_option maxHeartbeats 2000000

noncomputable section

namespace Cert.NormIdeal.Even

open Cert.NormIdeal.Gen Cert.Groups
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Which of the body's stores a point makes: the first block's beside result 0's, or one result's alone. -/
def Stores (i : grid0.Coords) : Prop :=
  (k0_cond1 i = 1#1 ∧ k0_cond2 i = 1#1 ∧ ¬ k0_cond3 i = 1#1 ∧ ¬ k0_cond4 i = 1#1 ∧ ¬ k0_cond5 i = 1#1 ∧ ¬ k0_cond6 i = 1#1 ∧ ¬ k0_cond7 i = 1#1)
  ∨ (¬ k0_cond1 i = 1#1 ∧ k0_cond2 i = 1#1 ∧ ¬ k0_cond3 i = 1#1 ∧ ¬ k0_cond4 i = 1#1 ∧ ¬ k0_cond5 i = 1#1 ∧ ¬ k0_cond6 i = 1#1 ∧ ¬ k0_cond7 i = 1#1)
  ∨ (¬ k0_cond1 i = 1#1 ∧ ¬ k0_cond2 i = 1#1 ∧ k0_cond3 i = 1#1 ∧ ¬ k0_cond4 i = 1#1 ∧ ¬ k0_cond5 i = 1#1 ∧ ¬ k0_cond6 i = 1#1 ∧ ¬ k0_cond7 i = 1#1)
  ∨ (¬ k0_cond1 i = 1#1 ∧ ¬ k0_cond2 i = 1#1 ∧ ¬ k0_cond3 i = 1#1 ∧ k0_cond4 i = 1#1 ∧ ¬ k0_cond5 i = 1#1 ∧ ¬ k0_cond6 i = 1#1 ∧ ¬ k0_cond7 i = 1#1)
  ∨ (¬ k0_cond1 i = 1#1 ∧ ¬ k0_cond2 i = 1#1 ∧ ¬ k0_cond3 i = 1#1 ∧ ¬ k0_cond4 i = 1#1 ∧ k0_cond5 i = 1#1 ∧ ¬ k0_cond6 i = 1#1 ∧ ¬ k0_cond7 i = 1#1)
  ∨ (¬ k0_cond1 i = 1#1 ∧ ¬ k0_cond2 i = 1#1 ∧ ¬ k0_cond3 i = 1#1 ∧ ¬ k0_cond4 i = 1#1 ∧ ¬ k0_cond5 i = 1#1 ∧ k0_cond6 i = 1#1 ∧ ¬ k0_cond7 i = 1#1)
  ∨ (¬ k0_cond1 i = 1#1 ∧ ¬ k0_cond2 i = 1#1 ∧ ¬ k0_cond3 i = 1#1 ∧ ¬ k0_cond4 i = 1#1 ∧ ¬ k0_cond5 i = 1#1 ∧ ¬ k0_cond6 i = 1#1 ∧ k0_cond7 i = 1#1)

instance (i : grid0.Coords) : Decidable (Stores i) := by unfold Stores; infer_instance

theorem stores : ∀ t : Fin grid0.N, Stores (grid0.coords t) := by decide +kernel

variable (c : Dev nD) (i : grid0.Coords) (x0 : Vec F S512x2048 .f32) (x1 : Vec F S1x2048 .f32) (x2 : Vec F S2048x512 .bf16)
  (x3 : Vec F S2048x128 .bf16) (x4 : Vec F S1x128 .f32)

/-- The scratch after the point. -/
abbrev rows' (s : Vec F S512x2048 .bf16) : Vec F S512x2048 .bf16 := if k0_cond1 i = 1#1 then k0_pay2 x0 x1 else s

/-- The body, run on any whole memrefs: each result's buffer gets the product where the point stores it, and stays as
    it was elsewhere. -/
theorem runs (hS : Stores i) (o0 : Vec F S512x512 .bf16) (o1 o2 : Vec F S512x512 .f32) (o3 : Vec F S512x512 .bf16) (o4 o5 : Vec F S512x512 .f32) (o6 : Vec F S512x8 .f32) (s : Vec F S512x2048 .bf16)
    (arg2 : Memref sig .tc .vmem S512x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S2048x128 .bf16) (harg5 : arg5.IsWhole)
    (arg6 : Memref sig .tc .vmem S1x128 .f32) (harg6 : arg6.IsWhole) (arg7 : Memref sig .tc .vmem S512x512 .bf16) (harg7 : arg7.IsWhole)
    (arg8 : Memref sig .tc .vmem S512x512 .f32) (harg8 : arg8.IsWhole) (arg9 : Memref sig .tc .vmem S512x512 .f32) (harg9 : arg9.IsWhole)
    (arg10 : Memref sig .tc .vmem S512x512 .bf16) (harg10 : arg10.IsWhole) (arg11 : Memref sig .tc .vmem S512x512 .f32) (harg11 : arg11.IsWhole)
    (arg12 : Memref sig .tc .vmem S512x512 .f32) (harg12 : arg12.IsWhole) (arg13 : Memref sig .tc .vmem S512x8 .f32) (harg13 : arg13.IsWhole)
    (arg14 : Memref sig .tc .vmem S512x2048 .bf16) (harg14 : arg14.IsWhole)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare o0 ∗ owns (c : Thread nD τ) arg8 fullShare o1 ∗ owns (c : Thread nD τ) arg9 fullShare o2
        ∗ owns (c : Thread nD τ) arg10 fullShare o3 ∗ owns (c : Thread nD τ) arg11 fullShare o4 ∗ owns (c : Thread nD τ) arg12 fullShare o5
        ∗ owns (c : Thread nD τ) arg13 fullShare o6 ∗ owns (c : Thread nD τ) arg14 fullShare s
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare (if k0_cond2 i = 1#1 then k0_pay5 (rows' i x0 x1 s) x2 else o0)
          ∗ owns (c : Thread nD τ) arg8 fullShare (if k0_cond3 i = 1#1 then k0_pay4 (rows' i x0 x1 s) x2 else o1)
          ∗ owns (c : Thread nD τ) arg9 fullShare (if k0_cond4 i = 1#1 then k0_pay4 (rows' i x0 x1 s) x2 else o2)
          ∗ owns (c : Thread nD τ) arg10 fullShare (if k0_cond5 i = 1#1 then k0_pay6 (k0_pay4 (rows' i x0 x1 s) x2) else o3)
          ∗ owns (c : Thread nD τ) arg11 fullShare (if k0_cond6 i = 1#1 then k0_pay4 (rows' i x0 x1 s) x2 else o4)
          ∗ owns (c : Thread nD τ) arg12 fullShare (if k0_cond7 i = 1#1 then k0_pay4 (rows' i x0 x1 s) x2 else o5)
          ∗ owns (c : Thread nD τ) arg13 fullShare (if k0_cond1 i = 1#1 then k0_pay3 x0 x1 x3 x4 else o6)
          ∗ owns (c : Thread nD τ) arg14 fullShare (rows' i x0 x1 s)) -∗ K ⟨⟩))
      ⊢ wp frame (wpE (defs₀ (F := F)) Variants.none c none) E
          (cc0_norm_proj i arg2 harg2 arg3 harg3 arg4 harg4 arg5 harg5 arg6 harg6 arg7 harg7 arg8 harg8 arg9 harg9 arg10 harg10 arg11 harg11 arg12 harg12 arg13 harg13 arg14 harg14) K := by
  unfold rows'
  simp only [cc0_norm_proj_eq_skeleton, k0_part1_eq_skeleton, k0_part2_eq_skeleton, k0_part3_eq_skeleton]
  unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hfs
  obtain ⟨h1, h2, h3, h4, h5, h6, h7⟩ | ⟨h1, h2, h3, h4, h5, h6, h7⟩ | ⟨h1, h2, h3, h4, h5, h6, h7⟩ | ⟨h1, h2, h3, h4, h5, h6, h7⟩
    | ⟨h1, h2, h3, h4, h5, h6, h7⟩ | ⟨h1, h2, h3, h4, h5, h6, h7⟩ | ⟨h1, h2, h3, h4, h5, h6, h7⟩ := hS
  all_goals (
    simp only [h1, h2, h3, h4, h5, h6, h7, if_true, if_false]
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      first | with_reducible exact harg7.read_unread _ | (frame_open; rw [read_last _ _ _ _ _ (by decide)]; frame_out)
    isplitl [H6]
    · iexists _; isplitr; swap; · iexact H6
      ipureintro
      first | with_reducible exact harg8.read_unread _ | (frame_open; rw [read_last _ _ _ _ _ (by decide)]; frame_out)
    isplitl [H7]
    · iexists _; isplitr; swap; · iexact H7
      ipureintro
      first | with_reducible exact harg9.read_unread _ | (frame_open; rw [read_last _ _ _ _ _ (by decide)]; frame_out)
    isplitl [H8]
    · iexists _; isplitr; swap; · iexact H8
      ipureintro
      first | with_reducible exact harg10.read_unread _ | (frame_open; rw [read_last _ _ _ _ _ (by decide)]; frame_out)
    isplitl [H9]
    · iexists _; isplitr; swap; · iexact H9
      ipureintro
      first | with_reducible exact harg11.read_unread _ | (frame_open; rw [read_last _ _ _ _ _ (by decide)]; frame_out)
    isplitl [H10]
    · iexists _; isplitr; swap; · iexact H10
      ipureintro
      first | with_reducible exact harg12.read_unread _ | (frame_open; rw [read_last _ _ _ _ _ (by decide)]; frame_out)
    isplitl [H11]
    · iexists _; isplitr; swap; · iexact H11
      ipureintro
      first | with_reducible exact harg13.read_unread _ | (frame_open; rw [read_last _ _ _ _ _ (by decide)]; frame_out)
    iexists _; isplitr; swap; · iexact HS
    ipureintro
    first | with_reducible exact harg14.read_unread _ | (frame_open; rw [read_last _ _ _ _ _ (by decide)]; frame_out))

end Cert.NormIdeal.Even

end
-- ==== Proof.NormFrame.lean ====
/- The even layer's projections: the run. Each result's buffer holds a block's product from the point that stores it to the
   point that writes it back, and the scratch holds the tile's normalised rows from the tile's first point on. From the
   body's specification at every point, the launch: what every array holds at the end (`run_main`), the arguments
   unchanged and the machine quiescent (`frame`). -/
module

public import proofs.«01_k».proof.Proof.NormKernel

@[expose] public section

set_option maxRecDepth 16384

noncomputable section

namespace Cert.NormIdeal.Even

open Cert.NormIdeal.Gen Cert.Groups
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- Window `w`'s result owns the blocks `lo w` to `hi w`. -/
theorem owns_of (w : Fin 12) (h5 : 5 ≤ w.val) : Owns cfg0 w (lo w) (hi w) where
  le := lo_hi w
  lt := hi_le w h5
  idle := (by decide +kernel : ∀ w : Fin 12, 5 ≤ w.val → ∀ t : Fin cfg0.N, cfg0.idle w (cfg0.grid.coords t) = !(decide (lo w ≤ t.val % 12 ∧ t.val % 12 ≤ hi w))) w h5
  flush := (by simp only [Window.flush_eq_flushF]; decide +kernel : ∀ w : Fin 12, 5 ≤ w.val → ∀ t : Fin cfg0.N,
    (cfg0.win w).flush t = decide ((lo w ≤ t.val % 12 ∧ t.val % 12 < hi w) ∨ t.val % 12 = 11)) w h5

/-! ## The proof data -/

variable (m : (ℓ : Loc nD τ sig) → Buf (Elt F) ℓ)

theorem N_lt (t : Fin cfg0.N) : t.val < 384 := Nat.lt_of_lt_of_eq t.isLt N_0

theorem N_mod : cfg0.N % 12 = 0 := by have h : cfg0.N = 384 := N_0; omega

/-- The tile's first point, and the point whose block of columns window `w`'s buffer holds after point `t` (once one has
    been stored). -/
def row (t : Fin cfg0.N) : Fin cfg0.N := ⟨t.val - t.val % 12, by have := t.isLt; omega⟩
def pt (w : Fin 12) (t : Fin cfg0.N) : Fin cfg0.N := Groups.pt N_mod (lo w) (hi w) t

/-- A tile's normalised rows. -/
def xn (c : Dev nD) (t : Fin cfg0.N) : Vec F S512x2048 .bf16 := k0_pay2 (iblk m c 0 (row t)) (iblk m c 1 (row t))

/-- The invariant before point `n`: the scratch at the tile's normalised rows (anything, before the first point). -/
def PhiS (c : Dev nD) : (n : ℕ) → n ≤ cfg0.N → sProp 𝕄
  | 0, _ => Pipeline.ΦA spec0 c
  | n + 1, h => iprop(owns (c : Thread nD τ) (Memref.whole cc0_scratch0) fullShare (xn m c ⟨n, h⟩) ∗ (∃ r, prngReg c r))

theorem PhiS_zero (c : Dev nD) (n : ℕ) (h : n ≤ cfg0.N) (hz : n = 0) : PhiS m c n h = (Pipeline.ΦA spec0 c : sProp 𝕄) := by
  subst hz; rfl

theorem PhiS_pos (c : Dev nD) (n : ℕ) (h : n ≤ cfg0.N) (hz : n ≠ 0) :
    PhiS m c n h = iprop(owns (c : Thread nD τ) (Memref.whole cc0_scratch0) fullShare (xn m c ⟨n - 1, by omega⟩) ∗ (∃ r, prngReg c r)) := by
  cases n with
  | zero => exact absurd rfl hz
  | succ n => rfl

theorem PhiA0_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- The proof data: an input's buffer holds its block, a result's the product of the tile's rows with a block of columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (xn m c (pt 5 t)) (iblk m c 2 (pt 5 t))
    | ⟨6, _⟩ => k0_pay4 (xn m c (pt 6 t)) (iblk m c 2 (pt 6 t))
    | ⟨7, _⟩ => k0_pay4 (xn m c (pt 7 t)) (iblk m c 2 (pt 7 t))
    | ⟨8, _⟩ => k0_pay6 (k0_pay4 (xn m c (pt 8 t)) (iblk m c 2 (pt 8 t)))
    | ⟨9, _⟩ => k0_pay4 (xn m c (pt 9 t)) (iblk m c 2 (pt 9 t))
    | ⟨10, _⟩ => k0_pay4 (xn m c (pt 10 t)) (iblk m c 2 (pt 10 t))
    | ⟨11, _⟩ => k0_pay3 (iblk m c 0 (pt 11 t)) (iblk m c 1 (pt 11 t)) (iblk m c 3 (pt 11 t)) (iblk m c 4 (pt 11 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = k0_pay5 (xn m c (pt 5 t)) (iblk m c 2 (pt 5 t)) := by dsimp only [dats]; try rfl
theorem after0_6 (c : Dev nD) (t : Fin cfg0.N) : (dats m 0 c).after 6 t = k0_pay4 (xn m c (pt 6 t)) (iblk m c 2 (pt 6 t)) := by dsimp only [dats]; try rfl
theorem after0_7 (c : Dev nD) (t : Fin cfg0.N) : (dats m 0 c).after 7 t = k0_pay4 (xn m c (pt 7 t)) (iblk m c 2 (pt 7 t)) := by dsimp only [dats]; try rfl
theorem after0_8 (c : Dev nD) (t : Fin cfg0.N) : (dats m 0 c).after 8 t = k0_pay6 (k0_pay4 (xn m c (pt 8 t)) (iblk m c 2 (pt 8 t))) := by dsimp only [dats]; try rfl
theorem after0_9 (c : Dev nD) (t : Fin cfg0.N) : (dats m 0 c).after 9 t = k0_pay4 (xn m c (pt 9 t)) (iblk m c 2 (pt 9 t)) := by dsimp only [dats]; try rfl
theorem after0_10 (c : Dev nD) (t : Fin cfg0.N) : (dats m 0 c).after 10 t = k0_pay4 (xn m c (pt 10 t)) (iblk m c 2 (pt 10 t)) := by dsimp only [dats]; try rfl
theorem after0_11 (c : Dev nD) (t : Fin cfg0.N) :
    (dats m 0 c).after 11 t = k0_pay3 (iblk m c 0 (pt 11 t)) (iblk m c 1 (pt 11 t)) (iblk m c 3 (pt 11 t)) (iblk m c 4 (pt 11 t)) := by dsimp only [dats]; try rfl

/-- The scratch after the body is the tile's rows. -/
theorem rows_of (c : Dev nD) (t : Fin cfg0.N) (s : Vec F S512x2048 .bf16) (hs : t.val % 12 ≠ 0 → s = xn m c t) :
    rows' (grid0.coords t) (iblk m c 0 t) (iblk m c 1 t) s = xn m c t := by
  have e : (!(k0_cond1 (grid0.coords t) == 1#1)) = !(decide (lo 11 ≤ t.val % 12 ∧ t.val % 12 ≤ hi 11)) := (owns_of 11 (by decide)).idle t
  have h0 : lo 11 = 0 ∧ hi 11 = 0 := by decide
  rw [h0.1, h0.2] at e
  unfold rows'
  by_cases h : k0_cond1 (grid0.coords t) = 1#1
  · rw [if_pos h]
    rw [h] at e
    unfold xn
    rw [show row t = t from Fin.ext (by unfold row; dsimp only; have : t.val % 12 = 0 := by simpa using e
                                        omega)]
  · rw [if_neg h]
    refine hs fun h' => h ?_
    rw [h'] at e
    simpa using e

theorem xn_carry (c : Dev nD) (t : Fin cfg0.N) (h : t.val % 12 ≠ 0) : xn m c ⟨t.val - 1, by omega⟩ = xn m c t := by
  unfold xn
  rw [show row ⟨t.val - 1, by omega⟩ = row t from Fin.ext (by unfold row; dsimp only; omega)]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t)

/-- The scratch before a point: at contents from which the body reaches the tile's rows. -/
theorem Phi_before (c : Dev nD) (t : Fin cfg0.N) :
    (dats m 0 c).Φ t.castSucc ⊢ (iprop(∃ s, ⌜rows' (grid0.coords t) (iblk m c 0 t) (iblk m c 1 t) s = xn m c t⌝
      ∗ owns (c : Thread nD τ) (Memref.whole cc0_scratch0) fullShare s ∗ (∃ r, prngReg c r)) : sProp 𝕄) := by
  rw [PhiS_castSucc]
  by_cases hz : t.val = 0
  · rw [PhiS_zero m c _ _ hz, PhiA0_eq]
    iintro ⟨⟨%s, HS⟩, Hg⟩
    iexists s
    isplitr
    · ipureintro; exact rows_of m c t s fun h => absurd (by rw [hz]) h
    isplitl [HS]; · iexact HS
    iexact Hg
  · rw [PhiS_pos m c _ _ hz]
    iintro ⟨HS, Hg⟩
    iexists _
    isplitr
    · ipureintro; exact rows_of m c t _ fun h => xn_carry m c t h
    isplitl [HS]; · iexact HS
    iexact Hg

section Leaves

variable (c : Dev nD) (t : Fin cfg0.N)

theorem leaves5 (d) : owns (c : Thread nD τ) (st0_5 t) fullShare (if k0_cond2 (grid0.coords t) = 1#1 then k0_pay5 (xn m c t) (iblk m c 2 t) else (dats m 0 c).before 5 t d)
    ⊢ ((dats m 0 c).leavesExact 5 t : sProp 𝕄) :=
  (owns_of 5 (by decide)).leaves (dats m 0 c) rfl (fun _ _ => rfl) (fun s _ h => by rw [after0_5, after0_5, show pt 5 s = _ from pt_carry N_mod s _ _ (lo_hi 5) h]; rfl) t d _ rfl _
    (fun h => by rw [after0_5, show pt 5 t = t from (owns_of 5 (by decide)).live N_mod t _ rfl h])
theorem leaves6 (d) : owns (c : Thread nD τ) (st0_6 t) fullShare (if k0_cond3 (grid0.coords t) = 1#1 then k0_pay4 (xn m c t) (iblk m c 2 t) else (dats m 0 c).before 6 t d)
    ⊢ ((dats m 0 c).leavesExact 6 t : sProp 𝕄) :=
  (owns_of 6 (by decide)).leaves (dats m 0 c) rfl (fun _ _ => rfl) (fun s _ h => by rw [after0_6, after0_6, show pt 6 s = _ from pt_carry N_mod s _ _ (lo_hi 6) h]; rfl) t d _ rfl _
    (fun h => by rw [after0_6, show pt 6 t = t from (owns_of 6 (by decide)).live N_mod t _ rfl h])
theorem leaves7 (d) : owns (c : Thread nD τ) (st0_7 t) fullShare (if k0_cond4 (grid0.coords t) = 1#1 then k0_pay4 (xn m c t) (iblk m c 2 t) else (dats m 0 c).before 7 t d)
    ⊢ ((dats m 0 c).leavesExact 7 t : sProp 𝕄) :=
  (owns_of 7 (by decide)).leaves (dats m 0 c) rfl (fun _ _ => rfl) (fun s _ h => by rw [after0_7, after0_7, show pt 7 s = _ from pt_carry N_mod s _ _ (lo_hi 7) h]; rfl) t d _ rfl _
    (fun h => by rw [after0_7, show pt 7 t = t from (owns_of 7 (by decide)).live N_mod t _ rfl h])
theorem leaves8 (d) : owns (c : Thread nD τ) (st0_8 t) fullShare (if k0_cond5 (grid0.coords t) = 1#1 then k0_pay6 (k0_pay4 (xn m c t) (iblk m c 2 t)) else (dats m 0 c).before 8 t d)
    ⊢ ((dats m 0 c).leavesExact 8 t : sProp 𝕄) :=
  (owns_of 8 (by decide)).leaves (dats m 0 c) rfl (fun _ _ => rfl) (fun s _ h => by rw [after0_8, after0_8, show pt 8 s = _ from pt_carry N_mod s _ _ (lo_hi 8) h]; rfl) t d _ rfl _
    (fun h => by rw [after0_8, show pt 8 t = t from (owns_of 8 (by decide)).live N_mod t _ rfl h])
theorem leaves9 (d) : owns (c : Thread nD τ) (st0_9 t) fullShare (if k0_cond6 (grid0.coords t) = 1#1 then k0_pay4 (xn m c t) (iblk m c 2 t) else (dats m 0 c).before 9 t d)
    ⊢ ((dats m 0 c).leavesExact 9 t : sProp 𝕄) :=
  (owns_of 9 (by decide)).leaves (dats m 0 c) rfl (fun _ _ => rfl) (fun s _ h => by rw [after0_9, after0_9, show pt 9 s = _ from pt_carry N_mod s _ _ (lo_hi 9) h]; rfl) t d _ rfl _
    (fun h => by rw [after0_9, show pt 9 t = t from (owns_of 9 (by decide)).live N_mod t _ rfl h])
theorem leaves10 (d) : owns (c : Thread nD τ) (st0_10 t) fullShare (if k0_cond7 (grid0.coords t) = 1#1 then k0_pay4 (xn m c t) (iblk m c 2 t) else (dats m 0 c).before 10 t d)
    ⊢ ((dats m 0 c).leavesExact 10 t : sProp 𝕄) :=
  (owns_of 10 (by decide)).leaves (dats m 0 c) rfl (fun _ _ => rfl) (fun s _ h => by rw [after0_10, after0_10, show pt 10 s = _ from pt_carry N_mod s _ _ (lo_hi 10) h]; rfl) t d _ rfl _
    (fun h => by rw [after0_10, show pt 10 t = t from (owns_of 10 (by decide)).live N_mod t _ rfl h])
theorem leaves11 (d) : owns (c : Thread nD τ) (st0_11 t) fullShare
      (if k0_cond1 (grid0.coords t) = 1#1 then k0_pay3 (iblk m c 0 t) (iblk m c 1 t) (iblk m c 3 t) (iblk m c 4 t) else (dats m 0 c).before 11 t d)
    ⊢ ((dats m 0 c).leavesExact 11 t : sProp 𝕄) :=
  (owns_of 11 (by decide)).leaves (dats m 0 c) rfl (fun _ _ => rfl) (fun s _ h => by rw [after0_11, after0_11, show pt 11 s = _ from pt_carry N_mod s _ _ (lo_hi 11) h]; rfl) t d _ rfl _
    (fun h => by rw [after0_11, show pt 11 t = t from (owns_of 11 (by decide)).live N_mod t _ rfl h])

end Leaves

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after0_0 m c) t, before0_1_of m (dats m 0 c) (A_eq m c 1) (after0_1 m c) t,
    before0_2_of m (dats m 0 c) (A_eq m c 2) (after0_2 m c) t, before0_3_of m (dats m 0 c) (A_eq m c 3) (after0_3 m c) t,
    before0_4_of m (dats m 0 c) (A_eq m c 4) (after0_4 m c) t]
  rw [show (dats m 0 c).owesAt () t.succ = (dats m 0 c).owesAt () t.castSucc from rfl,
    show (dats m 0 c).Φ t.succ = PhiS m c (t.val + 1) t.isLt from rfl, PhiS_pos m c (t.val + 1) t.isLt (Nat.succ_ne_zero _),
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave ⟨%s, %hs, HS, Hg⟩ := (Phi_before m c t) $$ HΦ
  have key := runs (F := F) c (grid0.coords t) (iblk m c 0 t) (iblk m c 1 t) (iblk m c 2 t) (iblk m c 3 t) (iblk m c 4 t) (stores t)
    ((dats m 0 c).before 5 t d5) ((dats m 0 c).before 6 t d6) ((dats m 0 c).before 7 t d7) ((dats m 0 c).before 8 t d8)
    ((dats m 0 c).before 9 t d9) ((dats m 0 c).before 10 t d10) ((dats m 0 c).before 11 t d11) s
  rw [hs] at key
  unfold bodyAt0
  iapply (key _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (hstage0_5 ((cfg0.slots t 5).cast nbuf0_5))
    _ (hstage0_6 ((cfg0.slots t 6).cast nbuf0_6)) _ (hstage0_7 ((cfg0.slots t 7).cast nbuf0_7)) _ (hstage0_8 ((cfg0.slots t 8).cast nbuf0_8))
    _ (hstage0_9 ((cfg0.slots t 9).cast nbuf0_9)) _ (hstage0_10 ((cfg0.slots t 10).cast nbuf0_10)) _ (hstage0_11 ((cfg0.slots t 11).cast nbuf0_11))
    _ (Memref.isWhole_whole _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves5 m c t d5); iexact H5
  isplitl [H6]; · iapply (leaves6 m c t d6); iexact H6
  isplitl [H7]; · iapply (leaves7 m c t d7); iexact H7
  isplitl [H8]; · iapply (leaves8 m c t d8); iexact H8
  isplitl [H9]; · iapply (leaves9 m c t d9); iexact H9
  isplitl [H10]; · iapply (leaves10 m c t d10); iexact H10
  iapply (leaves11 m c t d11); iexact H11

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- after the last point the scratch's contents are forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by have : cfg0.N = 384 := N_0; omega), PhiA0_eq]
  iintro ⟨HS, Hg⟩
  isplitl [HS]
  · iexists _; iexact HS
  iexact Hg

/-! ## The run and the frame -/

variable (ρ : Dev nD → PrngReg)

-- the library's launch is stated of any pipeline, and is fitted to this one by unfolding plain definitions
set_option backward.isDefEq.respectTransparency.types false in
/-- The launch: every execution ends with the arrays as the proof data say and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are as they were. -/
theorem args_of (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (Pipeline.mem_restRefs_of main_arg0 (by decide) (by decide)) |>.trans (V_main_arg0 m c),
    (h c).2 main_arg1 (Pipeline.mem_restRefs_of main_arg1 (by decide) (by decide)) |>.trans (V_main_arg1 m c),
    (h c).2 main_arg2 (Pipeline.mem_restRefs_of main_arg2 (by decide) (by decide)) |>.trans (V_main_arg2 m c),
    (h c).2 main_arg3 (Pipeline.mem_restRefs_of main_arg3 (by decide) (by decide)) |>.trans (V_main_arg3 m c)⟩

/-- Every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_of m r h.1 c, h.2⟩) (run_main_quiescent m ρ)

end Cert.NormIdeal.Even

end
-- ==== Proof.NormBits.lean ====
/- The even layer's projections at the kernel's own floats: the same program text as at the extended reals, so its frame is
   the one proved for every float type. -/
module

public import proofs.«01_k».proof.Proof.NormFrame
public import proofs.«01_k».proof.Proof.Gen.Norm

@[expose] public section

noncomputable section

open Idealize Idealize.ShloMosaic Idealize.ShloMosaic.TcCoe Idealize.SL.Sem

namespace Cert.NormIdeal.Even

variable {F : FTy → Type} [FloatOps F]

set_option maxHeartbeats 1000000

theorem defs₀_eq : Cert.Norm.defs₀ (F := F) = Cert.NormIdeal.defs₀ (F := F) := by
  unfold Cert.Norm.defs₀ Cert.NormIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Norm.defs (F := F) = Cert.NormIdeal.defs (F := F) := congrArg (Pipeline.defs Cert.NormIdeal.pcfgs) defs₀_eq

theorem frame_bits (m : (ℓ : Loc Cert.Norm.nD Cert.Norm.τ Cert.Norm.sig) → Buf (Elt F) ℓ) (g : Dev Cert.Norm.nD → PrngReg) :
    θ_run (Cert.Norm.defs (F := F)) (onTc (τ := Cert.Norm.τ) (Cert.Norm.main (F := F))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0) := by
  rw [defs_eq]
  exact Cert.NormIdeal.Even.frame (F := F) m g

end Cert.NormIdeal.Even

end
-- ==== Proof.Gate.lean ====
/- The logarithm of the logistic function over the extended reals: as a difference, and as a negated softplus. -/
module

public import Idealize.ShloMosaic.Lib.Pipeline.ValueKit

@[expose] public section

noncomputable section

open Idealize.ShloMosaic

namespace Cert.Spec

/-- The logarithm of the logistic function. -/
def lsg (y : EReal) : EReal := min y 0 - Ideal.log1p (Ideal.exp (0 - FloatOps.absf (F := Ideal) (φ := .f32) y))

/-! Both logarithms are of a real at least one. -/

theorem log_real (v : ℝ) (hv : 0 ≤ v) : ∃ w : ℝ, Ideal.log1p (v : EReal) = w := by
  refine ⟨Real.log (1 + v), ?_⟩
  unfold Ideal.log1p
  rw [show (1 : EReal) + (v : EReal) = ((1 + v : ℝ) : EReal) from by push_cast; rfl]
  show (if 1 + v ≤ 0 then (⊥ : EReal) else (Real.log (1 + v) : EReal)) = _
  rw [if_neg (by linarith)]

theorem exp_real (y : EReal) (hy : y ≠ ⊤) : ∃ v : ℝ, 0 ≤ v ∧ Ideal.exp y = v := by
  induction y with
  | bot => exact ⟨0, le_rfl, rfl⟩
  | coe r => exact ⟨Real.exp r, (Real.exp_pos r).le, rfl⟩
  | top => exact absurd rfl hy

theorem neg_add_real (a : EReal) (w : ℝ) : -(a + (w : EReal)) = -a - w := by
  induction a with
  | bot => rfl
  | coe r => norm_cast; ring
  | top => rfl

theorem abs_neg_ne (y : EReal) : -FloatOps.absf (F := Ideal) (φ := .f32) y ≠ ⊤ := by
  show -(max y (-y)) ≠ ⊤
  rw [Ne, EReal.neg_eq_top_iff]
  induction y with
  | bot => simp
  | coe r => simp [← EReal.coe_neg]
  | top => simp

/-- The same by the negated softplus of the negated argument. -/
theorem lsg_eq (y : EReal) : lsg y = -(max (-y) 0 + Ideal.log1p (Ideal.exp (-FloatOps.absf (F := Ideal) (φ := .f32) (-y)))) := by
  have e : FloatOps.absf (F := Ideal) (φ := .f32) (-y) = FloatOps.absf (F := Ideal) (φ := .f32) y := by
    show max (-y) (- -y) = max y (-y)
    rw [neg_neg, max_comm]
  obtain ⟨v, hv, e1⟩ := exp_real _ (abs_neg_ne y)
  obtain ⟨w, e2⟩ := log_real v hv
  unfold lsg
  rw [e, zero_sub, e1, e2, neg_add_real]
  congr 1
  rcases le_total y 0 with h | h
  · rw [min_eq_left h, max_eq_left (by simpa using EReal.neg_le_neg_iff.2 h), neg_neg]
  · rw [min_eq_right h, max_eq_right (by simpa using EReal.neg_le_neg_iff.2 h), neg_zero]

end Cert.Spec

end
-- ==== Proof.NormValue.lean ====
/- The even layer's projections: what the kernel's result arrays hold at the end is what the reference computes. -/
module

public import proofs.«01_k».proof.Proof.NormFrame
public import proofs.«01_k».proof.Proof.Spec
public import proofs.«01_k».proof.Proof.Gate
public import proofs.«01_k».proof.Proof.Gen.NormRefIdeal.Run
public import proofs.«01_k».proof.Proof.Gen.NormRefIdeal.Read
public import Idealize.ShloMosaic.Lib.Pipeline.ReadBack
public import Idealize.ShloMosaic.Lib.Pipeline.Covers
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.NormIdeal.Mathematics

open Cert.NormIdeal Cert.NormIdeal.Gen Cert.NormIdeal.Even Cert.Groups Cert.Spec

/-! ## The body's values -/

theorem rows_at (h : FVec Ideal S512x2048 .f32) (g : FVec Ideal S1x2048 .f32) (r : Fin 512) (k : Fin 2048) :
    k0_pay2 (F := Ideal) h g (ix2 r k) = nrm (fun x => h (ix2 r x)) (fun x => g (ix2 0 x)) k := by
  pointwise [k0_pay2, k0_pay1]
  rfl

theorem prod_at (s : FVec Ideal S512x2048 .bf16) (w : FVec Ideal S2048x512 .bf16) (r n : Fin 512) :
    k0_pay4 (F := Ideal) s w (ix2 r n) = ∑ k : Fin 2048, s (ix2 r k) * w (ix2 k n) := by
  pointwise [k0_pay4]

theorem gate_at (h : FVec Ideal S512x2048 .f32) (g : FVec Ideal S1x2048 .f32) (w : FVec Ideal S2048x128 .bf16) (b : FVec Ideal S1x128 .f32)
    (r : Fin 512) (l : Fin 8) :
    k0_pay3 (F := Ideal) h g w b (ix2 r l)
      = lsg ((∑ k : Fin 2048, nrm (fun x => h (ix2 r x)) (fun x => g (ix2 0 x)) k * w (ix2 k ⟨l.val, by omega⟩)) + b (ix2 0 ⟨l.val, by omega⟩)) := by
  pointwise [k0_pay3, k0_pay1]
  rfl

/-! ## The reference's values -/

section

open Cert.NormRefIdeal.Read

variable (a0 : FVec Ideal S4x4096x2048 .f32) (a1 : FVec Ideal S1x2048 .f32) (a2 : FVec Ideal S1x2048x6152 .f32) (a3 : FVec Ideal S1x8 .f32)

/-- Row `R` of the tokens, times column `n` of the weights. -/
def proj (R : Fin 16384) (n : Fin 6152) : EReal :=
  ∑ k : Fin 2048, nrm (fun x => a0 (ix3 ⟨R.val / 4096, by omega⟩ ⟨R.val % 4096, by omega⟩ x)) (fun x => a1 (ix2 0 x)) k * a2 (ix3 0 k n)

theorem ref_at (i : Cert.NormRefIdeal.S16384x6152.Idx) : val_main_v16 (F := Ideal) a0 a1 a2 i = proj a0 a1 a2 (i 0) (i 1) := by
  unfold val_main_v16 val_main_v14 val_main_v11 val_main_v15 val_main_v13 val_main_v12 val_main_v1 val_main_v10 val_main_v9 val_main_v8
    val_main_v7 val_main_v6 val_main_v5 val_main_v4 val_main_v3 val_main_v2 val_main_v0 val_main_cst val_main_cst_0 val_main_cst_1
  pointwise
  rfl

theorem refgate_at (i : Cert.NormRefIdeal.S16384x8.Idx) :
    val_main_v30 (F := Ideal) a0 a1 a2 a3 i = lsg (val_main_v29 (F := Ideal) a0 a1 a2 a3 i) := by
  simp only [val_main_v30_apply, val_main_call0_v1_apply, val_main_call0_call0_v11_apply, val_main_call0_call0_v4_apply,
    val_main_call0_call0_v10_apply, val_main_call0_call0_v9_apply, val_main_call0_call0_v8_apply, val_main_call0_call0_v7_apply,
    val_main_call0_call0_v3_apply, val_main_call0_call0_v1_apply, val_main_call0_call0_v2_apply, val_main_call0_call0_v0_apply,
    val_main_call0_v0_apply, val_main_call0_call0_cst_apply]
  generalize val_main_v29 (F := Ideal) a0 a1 a2 a3 i = y
  pointwise
  rw [if_neg fun h => h rfl]
  exact (lsg_eq y).symm

theorem refsum_at (r : Fin 16384) (l : Fin 8) : val_main_v29 (F := Ideal) a0 a1 a2 a3 (ix2 r l)
    = val_main_v16 (F := Ideal) a0 a1 a2 (ix2 r ⟨3072 + l.val, by omega⟩) + a3 (ix2 0 l) := by
  unfold val_main_v29 val_main_v21 val_main_v28 val_main_v27 val_main_v17
  generalize val_main_v16 (F := Ideal) a0 a1 a2 = z
  pointwise

end

/-! ## The arrays the region reads -/

variable (m : (ℓ : Loc nD τ sig) → Buf (Elt Ideal) ℓ) (c : Dev nD)

theorem V_x (R : Fin 16384) (x : Fin 2048) : (V m c main_v11 : FVec Ideal S16384x2048 .f32) (ix2 R x)
    = (m ((c : Thread nD τ).loc main_arg0) : FVec Ideal S4x4096x2048 .f32) (ix3 ⟨R.val / 4096, by omega⟩ ⟨R.val % 4096, by omega⟩ x) := by
  simp only [V, hostOps0, hostOps0_1, hostOps0_2, hostOps0_3, hostOps0_4, List.flatten_cons, List.flatten_nil, List.append_nil, List.cons_append, List.nil_append]
  entry_read
  pointwise
  try rfl

theorem V_g (x : Fin 2048) : (V m c main_v13 : FVec Ideal S1x2048 .f32) (ix2 0 x)
    = (m ((c : Thread nD τ).loc main_arg1) : FVec Ideal S1x2048 .f32) (ix2 0 x) := by
  simp only [V, hostOps0, hostOps0_1, hostOps0_2, hostOps0_3, hostOps0_4, List.flatten_cons, List.flatten_nil, List.append_nil, List.cons_append, List.nil_append]
  entry_read
  pointwise

theorem V_w (k : Fin 2048) (n : Fin 6144) : (V m c main_v4 : FVec Ideal S2048x6144 .bf16) (ix2 k n)
    = (m ((c : Thread nD τ).loc main_arg2) : FVec Ideal S1x2048x6152 .f32) (ix3 0 k (wide n)) := by
  simp only [V, hostOps0, hostOps0_1, hostOps0_2, hostOps0_3, hostOps0_4, List.flatten_cons, List.flatten_nil, List.append_nil, List.cons_append, List.nil_append]
  entry_read
  pointwise
  unfold wide
  by_cases h : n.val < 3072
  · rw [dif_pos h, if_pos h]
  · rw [dif_neg h, if_neg h]
    exact congrArg (fun q => (m ((c : Thread nD τ).loc main_arg2) : FVec Ideal S1x2048x6152 .f32) (ix3 0 k q)) (Fin.ext (by
      show 3080 + (n.val - 3072) = n.val + 8
      omega))

theorem cast_w (a2 : FVec Ideal S1x2048x6152 .f32) (k : Fin 2048) (q : Fin 6152) :
    (shapeCast S2048x6152 a2 shapeCasts_S1x2048x6152_S2048x6152 : FVec Ideal S2048x6152 .f32) (ix2 k q) = a2 (ix3 0 k q) := by
  pointwise

theorem V_wf (k : Fin 2048) (l : Fin 128) (hl : l.val < 8) : (V m c main_v7 : FVec Ideal S2048x128 .bf16) (ix2 k l)
    = (m ((c : Thread nD τ).loc main_arg2) : FVec Ideal S1x2048x6152 .f32) (ix3 0 k ⟨3072 + l.val, by omega⟩) := by
  simp only [V, hostOps0, hostOps0_1, hostOps0_2, hostOps0_3, hostOps0_4, List.flatten_cons, List.flatten_nil, List.append_nil, List.cons_append, List.nil_append]
  entry_read
  refine (pad_apply_of_inside ![0, 0] ![0, 120] ![0, 0] _ _ pads_S2048x8_S2048x128_000_01200 h_S_ (ix2 k l) (ix2 k ⟨l.val, hl⟩) (fun a => match a with
    | ⟨0, _⟩ => by show k.val = 0 + k.val * (0 + 1); omega
    | ⟨1, _⟩ => by show l.val = 0 + l.val * (0 + 1); omega)).trans ?_
  refine (extractStridedSlice_apply ![0, 3072] (shapeCast S2048x6152 (m ((c : Thread nD τ).loc main_arg2) : FVec Ideal S1x2048x6152 .f32) shapeCasts_S1x2048x6152_S2048x6152)
    slices_S2048x6152_S2048x8_0_3072 (ix2 k ⟨l.val, hl⟩) (ix2 k ⟨3072 + l.val, by omega⟩) (fun a => match a with
    | ⟨0, _⟩ => by show k.val = 0 + k.val; omega
    | ⟨1, _⟩ => rfl)).trans ?_
  exact cast_w _ k _

theorem V_b (l : Fin 128) (hl : l.val < 8) : (V m c main_v10 : FVec Ideal S1x128 .f32) (ix2 0 l)
    = (m ((c : Thread nD τ).loc main_arg3) : FVec Ideal S1x8 .f32) (ix2 0 ⟨l.val, hl⟩) := by
  simp only [V, hostOps0, hostOps0_1, hostOps0_2, hostOps0_3, hostOps0_4, List.flatten_cons, List.flatten_nil, List.append_nil, List.cons_append, List.nil_append]
  entry_read
  pointwise
  refine (pad_apply_of_inside ![0] ![120] ![0] _ _ pads_S8_S128_01200 h_S_ (ix1 l) (ix1 ⟨l.val, hl⟩) (fun a => match a with
    | ⟨0, _⟩ => by show l.val = 0 + l.val * (0 + 1); omega)).trans ?_
  rfl

/-! ## The windows' blocks -/

theorem idx_val : ∀ t : Fin cfg0.N, win0_0.index t = ![t.val / 12, 0]
    ∧ win0_1.index t = ![0, 0]
    ∧ win0_2.index t = ![0, t.val % 12]
    ∧ win0_3.index t = ![0, 0]
    ∧ win0_4.index t = ![0, 0]
    ∧ win0_11.index t = ![t.val / 12, 0] :=
  (by decide +kernel : ∀ t : Fin grid0.N, _)

theorem out_val : ∀ t : Fin cfg0.N, win0_5.index t = ![t.val / 12, min 1 (t.val % 12 - 0)]
    ∧ win0_6.index t = ![t.val / 12, min 1 (t.val % 12 - 2)]
    ∧ win0_7.index t = ![t.val / 12, min 1 (t.val % 12 - 4)]
    ∧ win0_8.index t = ![t.val / 12, min 1 (t.val % 12 - 6)]
    ∧ win0_9.index t = ![t.val / 12, min 1 (t.val % 12 - 8)]
    ∧ win0_10.index t = ![t.val / 12, min 1 (t.val % 12 - 10)] :=
  (by decide +kernel : ∀ t : Fin grid0.N, _)

theorem rd0 (p : Fin cfg0.N) (r : Fin 512) (x : Fin 2048) (h : p.val / 12 * 512 + r.val < 16384) :
    (show FVec Ideal S512x2048 .f32 from iblk m c 0 p) (ix2 r x) = (V m c main_v11 : FVec Ideal S16384x2048 .f32) (ix2 ⟨p.val / 12 * 512 + r.val, h⟩ x) := by
  generalize hV : (V m c main_v11 : FVec Ideal S16384x2048 .f32) = v
  blk_ext [iblk, V, idx_val p, hV]
theorem rd1 (p : Fin cfg0.N) (x : Fin 2048) :
    (show FVec Ideal S1x2048 .f32 from iblk m c 1 p) (ix2 0 x) = (V m c main_v13 : FVec Ideal S1x2048 .f32) (ix2 0 x) := by
  blk_ext [iblk, idx_val p]
theorem rd2 (p : Fin cfg0.N) (k : Fin 2048) (n : Fin 512) (h : p.val % 12 * 512 + n.val < 6144) :
    (show FVec Ideal S2048x512 .bf16 from iblk m c 2 p) (ix2 k n) = (V m c main_v4 : FVec Ideal S2048x6144 .bf16) (ix2 k ⟨p.val % 12 * 512 + n.val, h⟩) := by
  blk_ext [iblk, idx_val p]
theorem rd3 (p : Fin cfg0.N) (k : Fin 2048) (l : Fin 128) :
    (show FVec Ideal S2048x128 .bf16 from iblk m c 3 p) (ix2 k l) = (V m c main_v7 : FVec Ideal S2048x128 .bf16) (ix2 k l) := by
  blk_ext [iblk, idx_val p]
theorem rd4 (p : Fin cfg0.N) (l : Fin 128) :
    (show FVec Ideal S1x128 .f32 from iblk m c 4 p) (ix2 0 l) = (V m c main_v10 : FVec Ideal S1x128 .f32) (ix2 0 l) := by
  blk_ext [iblk, idx_val p]

/-! ## What the buffers hold, and the arrays at the end -/

theorem rows_lt (p : Fin cfg0.N) (r : Fin 512) : p.val / 12 * 512 + r.val < 16384 := by have := N_lt p; omega
theorem cols_lt (p : Fin cfg0.N) (n : Fin 512) : p.val % 12 * 512 + n.val < 6144 := by omega

/-- A tile's normalised row. -/
theorem nrm_at (p : Fin cfg0.N) (r : Fin 512) (k : Fin 2048) :
    nrm (fun x => (show FVec Ideal S512x2048 .f32 from iblk m c 0 p) (ix2 r x)) (fun x => (show FVec Ideal S1x2048 .f32 from iblk m c 1 p) (ix2 0 x)) k
      = nrm (fun x => (m ((c : Thread nD τ).loc main_arg0) : FVec Ideal S4x4096x2048 .f32)
          (ix3 ⟨(p.val / 12 * 512 + r.val) / 4096, by have := rows_lt p r; omega⟩ ⟨(p.val / 12 * 512 + r.val) % 4096, by omega⟩ x))
        (fun x => (m ((c : Thread nD τ).loc main_arg1) : FVec Ideal S1x2048 .f32) (ix2 0 x)) k :=
  congrArg₂ (fun a b => nrm a b k) (funext fun x => (rd0 m c p r x (rows_lt p r)).trans (V_x m c ⟨_, rows_lt p r⟩ x))
    (funext fun x => (rd1 m c p x).trans (V_g m c x))

/-- The product at point `p`. -/
theorem block_at (p : Fin cfg0.N) (r n : Fin 512) :
    k0_pay4 (F := Ideal) (xn m c p) (iblk m c 2 p) (ix2 r n)
      = proj (m ((c : Thread nD τ).loc main_arg0)) (m ((c : Thread nD τ).loc main_arg1)) (m ((c : Thread nD τ).loc main_arg2))
        ⟨p.val / 12 * 512 + r.val, rows_lt p r⟩ (wide ⟨p.val % 12 * 512 + n.val, cols_lt p n⟩) := by
  refine (prod_at _ _ r n).trans (Finset.sum_congr rfl fun k _ => congrArg₂ (fun a b : EReal => a * b) ?_ ?_)
  · unfold xn
    refine (rows_at _ _ r k).trans ((nrm_at m c (row p) r k).trans ?_)
    have e : (row p).val / 12 = p.val / 12 := by unfold row; dsimp only; omega
    simp only [e]
  · exact (rd2 m c p k n (cols_lt p n)).trans (V_w m c k _)

/-- The forget gates at point `p`. -/
theorem gates_at (p : Fin cfg0.N) (r : Fin 512) (l : Fin 8) :
    k0_pay3 (F := Ideal) (iblk m c 0 p) (iblk m c 1 p) (iblk m c 3 p) (iblk m c 4 p) (ix2 r l)
      = Cert.NormRefIdeal.Read.val_main_v30 (F := Ideal) (m ((c : Thread nD τ).loc main_arg0)) (m ((c : Thread nD τ).loc main_arg1))
        (m ((c : Thread nD τ).loc main_arg2)) (m ((c : Thread nD τ).loc main_arg3)) (ix2 ⟨p.val / 12 * 512 + r.val, rows_lt p r⟩ l) := by
  rw [refgate_at, refsum_at, ref_at]
  refine (gate_at _ _ _ _ r l).trans (congrArg lsg (congrArg₂ (fun a b : EReal => a + b) (Finset.sum_congr rfl fun k _ => congrArg₂ (fun a b : EReal => a * b) ?_ ?_) ?_))
  · exact nrm_at m c p r k
  · exact (rd3 m c p k _).trans (V_wf m c k _ l.isLt)
  · exact (rd4 m c p _).trans (V_b m c _ l.isLt)

section

variable (t : Fin cfg0.N) (y : S512x512.Idx)

/-- A main result's buffer at a write-back is the product of the tile's rows and the columns of the block written. -/
theorem at_flush (w : Fin 12) (h5 : 5 ≤ w.val) (hw : w.val < 11) (hf : (cfg0.win w).flush t = true) (R : Fin 16384) (C : Fin 6152)
    (hR : R.val = t.val / 12 * 512 + (y 0).val)
    (hC : C.val = (if w.val < 8 then 1024 * (w.val - 5) else 1024 * (w.val - 5) + 8) + (min 1 (t.val % 12 - lo w) * 512 + (y 1).val)) :
    k0_pay4 (F := Ideal) (xn m c (Even.pt w t)) (iblk m c 2 (Even.pt w t)) y
      = proj (m ((c : Thread nD τ).loc main_arg0)) (m ((c : Thread nD τ).loc main_arg1)) (m ((c : Thread nD τ).loc main_arg2)) R C := by
  have e1 : (Even.pt w t).val / 12 = t.val / 12 := pt_row N_mod t _ _
  have hy : (y 1).val < 512 := (y 1).isLt
  rw [eq_ix2 y]
  refine (block_at m c (Even.pt w t) (y 0) (y 1)).trans (congrArg₂ (proj _ _ _) (Fin.ext ?_) (Fin.ext ?_))
  · rw [hR, ← e1]
  · rw [hC]
    exact (wide_val _).trans (wide_half w h5 hw _ _ _ ((owns_of w h5).pt_flush N_mod t hf) hy)

end

/-! ## The result arrays at the end -/

section Results

open Cert.NormRefIdeal.Read

theorem final5 : (dats m 0 c).arrAt 5 (cfgs 0).N = val_main_v25 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  have ee : ((cfg0.win 5).blk t).view.emb y = (ix2 ⟨t.val / 12 * 512 + (y (0 : Fin 2)).val, rows_lt t (y (0 : Fin 2))⟩
      ⟨min 1 (t.val % 12 - 0) * 512 + (y (1 : Fin 2)).val, half_lt _ (y (1 : Fin 2))⟩ : S16384x1024.Idx) := by
    blk_ext [out_val t]
  blk_simp
  rw [after0_5]
  refine Eq.trans (α := EReal) (at_flush m c t y 5 (by decide) (by decide) hf ⟨t.val / 12 * 512 + (y (0 : Fin 2)).val, rows_lt t (y (0 : Fin 2))⟩
    ⟨0 + (min 1 (t.val % 12 - 0) * 512 + (y (1 : Fin 2)).val), by have := half_lt (t.val % 12 - 0) (y (1 : Fin 2)); omega⟩ rfl rfl) ?_
  refine Eq.trans ?_ (congrArg (val_main_v25 (F := Ideal) _ _ _) ee.symm)
  rw [val_main_v25_apply, val_main_v18_apply, ref_at]
  exact congrArg (proj _ _ _ _) (Fin.ext (Nat.zero_add _))

theorem final6 : (dats m 0 c).arrAt 6 (cfgs 0).N = val_main_v19 (F := Ideal)
    (m ((c : Thread nD τ).loc main_arg0)) (m ((c : Thread nD τ).loc main_arg1)) (m ((c : Thread nD τ).loc main_arg2)) := by
  refine (dats m 0 c).arrAt_eq_of_covers 6 _ (by decide +kernel) fun t hf y => ?_
  have ee : ((cfg0.win 6).blk t).view.emb y = (ix2 ⟨t.val / 12 * 512 + (y (0 : Fin 2)).val, rows_lt t (y (0 : Fin 2))⟩
      ⟨min 1 (t.val % 12 - 2) * 512 + (y (1 : Fin 2)).val, half_lt _ (y (1 : Fin 2))⟩ : S16384x1024.Idx) := by
    blk_ext [out_val t]
  blk_simp
  rw [after0_6]
  refine Eq.trans (α := EReal) (at_flush m c t y 6 (by decide) (by decide) hf ⟨t.val / 12 * 512 + (y (0 : Fin 2)).val, rows_lt t (y (0 : Fin 2))⟩
    ⟨1024 + (min 1 (t.val % 12 - 2) * 512 + (y (1 : Fin 2)).val), by have := half_lt (t.val % 12 - 2) (y (1 : Fin 2)); omega⟩ rfl rfl) ?_
  refine Eq.trans ?_ (congrArg (val_main_v19 (F := Ideal) _ _ _) ee.symm)
  rw [val_main_v19_apply, ref_at]
  rfl

theorem final7 : (dats m 0 c).arrAt 7 (cfgs 0).N = val_main_v20 (F := Ideal)
    (m ((c : Thread nD τ).loc main_arg0)) (m ((c : Thread nD τ).loc main_arg1)) (m ((c : Thread nD τ).loc main_arg2)) := by
  refine (dats m 0 c).arrAt_eq_of_covers 7 _ (by decide +kernel) fun t hf y => ?_
  have ee : ((cfg0.win 7).blk t).view.emb y = (ix2 ⟨t.val / 12 * 512 + (y (0 : Fin 2)).val, rows_lt t (y (0 : Fin 2))⟩
      ⟨min 1 (t.val % 12 - 4) * 512 + (y (1 : Fin 2)).val, half_lt _ (y (1 : Fin 2))⟩ : S16384x1024.Idx) := by
    blk_ext [out_val t]
  blk_simp
  rw [after0_7]
  refine Eq.trans (α := EReal) (at_flush m c t y 7 (by decide) (by decide) hf ⟨t.val / 12 * 512 + (y (0 : Fin 2)).val, rows_lt t (y (0 : Fin 2))⟩
    ⟨2048 + (min 1 (t.val % 12 - 4) * 512 + (y (1 : Fin 2)).val), by have := half_lt (t.val % 12 - 4) (y (1 : Fin 2)); omega⟩ rfl rfl) ?_
  refine Eq.trans ?_ (congrArg (val_main_v20 (F := Ideal) _ _ _) ee.symm)
  rw [val_main_v20_apply, ref_at]
  rfl

theorem final8 : (dats m 0 c).arrAt 8 (cfgs 0).N = val_main_v26 (F := Ideal)
    (m ((c : Thread nD τ).loc main_arg0)) (m ((c : Thread nD τ).loc main_arg1)) (m ((c : Thread nD τ).loc main_arg2)) := by
  refine (dats m 0 c).arrAt_eq_of_covers 8 _ (by decide +kernel) fun t hf y => ?_
  have ee : ((cfg0.win 8).blk t).view.emb y = (ix2 ⟨t.val / 12 * 512 + (y (0 : Fin 2)).val, rows_lt t (y (0 : Fin 2))⟩
      ⟨min 1 (t.val % 12 - 6) * 512 + (y (1 : Fin 2)).val, half_lt _ (y (1 : Fin 2))⟩ : S16384x1024.Idx) := by
    blk_ext [out_val t]
  blk_simp
  rw [after0_8]
  refine Eq.trans (α := EReal) (at_flush m c t y 8 (by decide) (by decide) hf ⟨t.val / 12 * 512 + (y (0 : Fin 2)).val, rows_lt t (y (0 : Fin 2))⟩
    ⟨3080 + (min 1 (t.val % 12 - 6) * 512 + (y (1 : Fin 2)).val), by have := half_lt (t.val % 12 - 6) (y (1 : Fin 2)); omega⟩ rfl rfl) ?_
  refine Eq.trans ?_ (congrArg (val_main_v26 (F := Ideal) _ _ _) ee.symm)
  rw [val_main_v26_apply, val_main_v22_apply, ref_at]
  rfl

theorem final9 : (dats m 0 c).arrAt 9 (cfgs 0).N = val_main_v23 (F := Ideal)
    (m ((c : Thread nD τ).loc main_arg0)) (m ((c : Thread nD τ).loc main_arg1)) (m ((c : Thread nD τ).loc main_arg2)) := by
  refine (dats m 0 c).arrAt_eq_of_covers 9 _ (by decide +kernel) fun t hf y => ?_
  have ee : ((cfg0.win 9).blk t).view.emb y = (ix2 ⟨t.val / 12 * 512 + (y (0 : Fin 2)).val, rows_lt t (y (0 : Fin 2))⟩
      ⟨min 1 (t.val % 12 - 8) * 512 + (y (1 : Fin 2)).val, half_lt _ (y (1 : Fin 2))⟩ : S16384x1024.Idx) := by
    blk_ext [out_val t]
  blk_simp
  rw [after0_9]
  refine Eq.trans (α := EReal) (at_flush m c t y 9 (by decide) (by decide) hf ⟨t.val / 12 * 512 + (y (0 : Fin 2)).val, rows_lt t (y (0 : Fin 2))⟩
    ⟨4104 + (min 1 (t.val % 12 - 8) * 512 + (y (1 : Fin 2)).val), by have := half_lt (t.val % 12 - 8) (y (1 : Fin 2)); omega⟩ rfl rfl) ?_
  refine Eq.trans ?_ (congrArg (val_main_v23 (F := Ideal) _ _ _) ee.symm)
  rw [val_main_v23_apply, ref_at]
  rfl

theorem final10 : (dats m 0 c).arrAt 10 (cfgs 0).N = val_main_v24 (F := Ideal)
    (m ((c : Thread nD τ).loc main_arg0)) (m ((c : Thread nD τ).loc main_arg1)) (m ((c : Thread nD τ).loc main_arg2)) := by
  refine (dats m 0 c).arrAt_eq_of_covers 10 _ (by decide +kernel) fun t hf y => ?_
  have ee : ((cfg0.win 10).blk t).view.emb y = (ix2 ⟨t.val / 12 * 512 + (y (0 : Fin 2)).val, rows_lt t (y (0 : Fin 2))⟩
      ⟨min 1 (t.val % 12 - 10) * 512 + (y (1 : Fin 2)).val, half_lt _ (y (1 : Fin 2))⟩ : S16384x1024.Idx) := by
    blk_ext [out_val t]
  blk_simp
  rw [after0_10]
  refine Eq.trans (α := EReal) (at_flush m c t y 10 (by decide) (by decide) hf ⟨t.val / 12 * 512 + (y (0 : Fin 2)).val, rows_lt t (y (0 : Fin 2))⟩
    ⟨5128 + (min 1 (t.val % 12 - 10) * 512 + (y (1 : Fin 2)).val), by have := half_lt (t.val % 12 - 10) (y (1 : Fin 2)); omega⟩ rfl rfl) ?_
  refine Eq.trans ?_ (congrArg (val_main_v24 (F := Ideal) _ _ _) ee.symm)
  rw [val_main_v24_apply, ref_at]
  rfl

theorem final11 : (dats m 0 c).arrAt 11 (cfgs 0).N = val_main_v30 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 11 _ (by decide +kernel) fun t hf y => ?_
  have ee : ((cfg0.win 11).blk t).view.emb y = (ix2 ⟨t.val / 12 * 512 + (y (0 : Fin 2)).val, rows_lt t (y (0 : Fin 2))⟩ (y (1 : Fin 2)) : S16384x8.Idx) := by
    blk_ext [idx_val t]
  have e1 : (Even.pt 11 t).val / 12 = t.val / 12 := pt_row N_mod t _ _
  blk_simp
  rw [after0_11]
  refine (congrArg (k0_pay3 (F := Ideal) _ _ _ _) (eq_ix2 (n0 := 512) (n1 := 8) y)).trans ((gates_at m c (Even.pt 11 t) (y (0 : Fin 2)) (y (1 : Fin 2))).trans ?_)
  refine Eq.trans ?_ (congrArg (val_main_v30 (F := Ideal) _ _ _ _) ee.symm)
  simp only [e1]

end Results

end Cert.NormIdeal.Mathematics

end
-- ==== Proof.Proj.lean ====
/- The output projections: a tile of the attention's rows times a block of the weights' columns, added to the residual rows. On
   every row the kernel's result is the reference's. -/
module

public import proofs.«01_k».proof.Proof.Gen.ProjEIdeal.Value
public import proofs.«01_k».proof.Proof.Gen.ProjERefIdeal.Run
public import proofs.«01_k».proof.Proof.Gen.ProjERefIdeal.Read
public import proofs.«01_k».proof.Proof.Gen.ProjOIdeal.Value
public import proofs.«01_k».proof.Proof.Gen.ProjORefIdeal.Run
public import proofs.«01_k».proof.Proof.Gen.ProjORefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! ## The odd layer: one input -/

namespace Cert.ProjOIdeal.Mathematics

open Cert.ProjOIdeal Cert.ProjOIdeal.Gen

theorem pay_at (h : FVec Ideal S512x1024 .f32) (o : FVec Ideal S512x2048 .bf16) (w : FVec Ideal S2048x1024 .bf16) (y : S512x1024.Idx) :
    k0_pay1 (F := Ideal) h o w y = h y + ∑ k : Fin 2048, o (ix2 (y 0) k) * w (ix2 k (y 1)) := by
  pointwise [k0_pay1]

theorem ref_at (a0 : FVec Ideal Cert.ProjORefIdeal.S16384x2048 .bf16) (a1 : FVec Ideal Cert.ProjORefIdeal.S1x2048x2048 .f32)
    (a2 : FVec Ideal Cert.ProjORefIdeal.S16384x2048 .f32) (j : S16384x2048.Idx) :
    Cert.ProjORefIdeal.Read.val_main_v3 (F := Ideal) a0 a1 a2 j = a2 j + ∑ k : Fin 2048, a0 (ix2 (j 0) k) * a1 (ix3 0 k (j 1)) := by
  rw [← Cert.ProjORefIdeal.Read.val_main_v3_eq]
  pointwise

variable (m : (ℓ : Loc nD τ sig) → Buf (Elt Ideal) ℓ) (c : Dev nD)

theorem idx_val : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

theorem N_lt (t : Fin cfg0.N) : t.val < 64 := lt_of_lt_of_eq t.isLt N_0

theorem rd0 (p : Fin cfg0.N) (r : Fin 512) (x : Fin 2048) (h : p.val / 2 * 512 + r.val < 16384) :
    (show FVec Ideal S512x2048 .bf16 from iblk m c 0 p) (ix2 r x)
      = (m ((c : Thread nD τ).loc main_arg0) : FVec Ideal S16384x2048 .bf16) (ix2 ⟨p.val / 2 * 512 + r.val, h⟩ x) := by
  blk_ext [iblk, V, idx_val p]

theorem rd1 (p : Fin cfg0.N) (k : Fin 2048) (n : Fin 1024) (h : p.val % 2 * 1024 + n.val < 2048) :
    (show FVec Ideal S2048x1024 .bf16 from iblk m c 1 p) (ix2 k n)
      = (m ((c : Thread nD τ).loc main_arg1) : FVec Ideal S1x2048x2048 .f32) (ix3 0 k ⟨p.val % 2 * 1024 + n.val, h⟩) := by
  blk_simp [iblk, idx_val p]
  entry_read
  pointwise
  blk_ext [idx_val p]

theorem rd2 (p : Fin cfg0.N) (r : Fin 512) (n : Fin 1024) (h : p.val / 2 * 512 + r.val < 16384) (h' : p.val % 2 * 1024 + n.val < 2048) :
    (show FVec Ideal S512x1024 .f32 from iblk m c 2 p) (ix2 r n)
      = (m ((c : Thread nD τ).loc main_arg2) : FVec Ideal S16384x2048 .f32) (ix2 ⟨p.val / 2 * 512 + r.val, h⟩ ⟨p.val % 2 * 1024 + n.val, h'⟩) := by
  blk_ext [iblk, V, idx_val p]

theorem final : (dats m 0 c).arrAt 3 (cfgs 0).N = Cert.ProjORefIdeal.Read.val_main_v3 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := N_lt t
  have h0 : t.val / 2 * 512 + (y (0 : Fin 2)).val < 16384 := by have : (y (0 : Fin 2)).val < 512 := (y (0 : Fin 2)).isLt; omega
  have h1 : t.val % 2 * 1024 + (y (1 : Fin 2)).val < 2048 := by have : (y (1 : Fin 2)).val < 1024 := (y (1 : Fin 2)).isLt; omega
  have ee : ((cfg0.win 3).blk t).view.emb y = (ix2 ⟨t.val / 2 * 512 + (y (0 : Fin 2)).val, h0⟩ ⟨t.val % 2 * 1024 + (y (1 : Fin 2)).val, h1⟩ : S16384x2048.Idx) := by
    blk_ext [idx_val t]
  blk_simp
  rw [after0_3]
  unfold out0_3
  frame_out
  refine (pay_at _ _ _ y).trans ?_
  refine Eq.trans ?_ (congrArg (Cert.ProjORefIdeal.Read.val_main_v3 (F := Ideal) _ _ _) ee.symm)
  rw [ref_at]
  refine congrArg₂ (fun a b : EReal => a + b) ((congrArg _ (eq_ix2 (n0 := 512) (n1 := 1024) y)).trans (rd2 m c t (y (0 : Fin 2)) (y (1 : Fin 2)) h0 h1))
    (Finset.sum_congr rfl fun k _ => congrArg₂ (fun a b : EReal => a * b) (rd0 m c t (y (0 : Fin 2)) k h0) (rd1 m c t k (y (1 : Fin 2)) h1))

end Cert.ProjOIdeal.Mathematics

/-! ## The even layer: two inputs, and the halves of the weights' rows -/

namespace Cert.ProjEIdeal.Mathematics

open Cert.ProjEIdeal Cert.ProjEIdeal.Gen

theorem pay_at (h : FVec Ideal S512x1024 .f32) (o : FVec Ideal S512x1024 .bf16) (w : FVec Ideal S1024x1024 .bf16)
    (o' : FVec Ideal S512x1024 .bf16) (w' : FVec Ideal S1024x1024 .bf16) (y : S512x1024.Idx) :
    k0_pay1 (F := Ideal) h o w o' w' y
      = h y + (∑ k : Fin 1024, o (ix2 (y 0) k) * w (ix2 k (y 1))) + ∑ k : Fin 1024, o' (ix2 (y 0) k) * w' (ix2 k (y 1)) := by
  pointwise [k0_pay1]

theorem ref_at (a0 a1 : FVec Ideal Cert.ProjERefIdeal.S16384x1024 .bf16) (a2 : FVec Ideal Cert.ProjERefIdeal.S1x2048x2048 .f32)
    (a3 : FVec Ideal Cert.ProjERefIdeal.S16384x2048 .f32) (j : S16384x2048.Idx) :
    Cert.ProjERefIdeal.Read.val_main_v5 (F := Ideal) a0 a1 a2 a3 j = a3 j + ((∑ k : Fin 1024, a0 (ix2 (j 0) k) * a2 (ix3 0 ⟨k.val, by omega⟩ (j 1)))
      + ∑ k : Fin 1024, a1 (ix2 (j 0) k) * a2 (ix3 0 ⟨1024 + k.val, by omega⟩ (j 1))) := by
  rw [← Cert.ProjERefIdeal.Read.val_main_v5_eq]
  pointwise

variable (m : (ℓ : Loc nD τ sig) → Buf (Elt Ideal) ℓ) (c : Dev nD)

theorem idx_val : ∀ t : Fin cfg0.N, win0_0.index t = ![t.val / 2, 0]
    ∧ win0_1.index t = ![t.val / 2, 0]
    ∧ win0_2.index t = ![0, t.val % 2]
    ∧ win0_3.index t = ![0, t.val % 2]
    ∧ win0_4.index t = ![t.val / 2, t.val % 2]
    ∧ win0_5.index t = ![t.val / 2, t.val % 2] :=
  (by decide +kernel : ∀ t : Fin grid0.N, _)

theorem N_lt (t : Fin cfg0.N) : t.val < 64 := lt_of_lt_of_eq t.isLt N_0

theorem rd0 (p : Fin cfg0.N) (r : Fin 512) (x : Fin 1024) (h : p.val / 2 * 512 + r.val < 16384) :
    (show FVec Ideal S512x1024 .bf16 from iblk m c 0 p) (ix2 r x)
      = (m ((c : Thread nD τ).loc main_arg0) : FVec Ideal S16384x1024 .bf16) (ix2 ⟨p.val / 2 * 512 + r.val, h⟩ x) := by
  blk_ext [iblk, V, idx_val p]

theorem rd1 (p : Fin cfg0.N) (r : Fin 512) (x : Fin 1024) (h : p.val / 2 * 512 + r.val < 16384) :
    (show FVec Ideal S512x1024 .bf16 from iblk m c 1 p) (ix2 r x)
      = (m ((c : Thread nD τ).loc main_arg1) : FVec Ideal S16384x1024 .bf16) (ix2 ⟨p.val / 2 * 512 + r.val, h⟩ x) := by
  blk_ext [iblk, V, idx_val p]

theorem rd2 (p : Fin cfg0.N) (k n : Fin 1024) (h : p.val % 2 * 1024 + n.val < 2048) :
    (show FVec Ideal S1024x1024 .bf16 from iblk m c 2 p) (ix2 k n)
      = (m ((c : Thread nD τ).loc main_arg2) : FVec Ideal S1x2048x2048 .f32) (ix3 0 ⟨k.val, by omega⟩ ⟨p.val % 2 * 1024 + n.val, h⟩) := by
  blk_simp [iblk, idx_val p]
  entry_read
  pointwise
  blk_ext [idx_val p]

theorem rd3 (p : Fin cfg0.N) (k n : Fin 1024) (h : p.val % 2 * 1024 + n.val < 2048) :
    (show FVec Ideal S1024x1024 .bf16 from iblk m c 3 p) (ix2 k n)
      = (m ((c : Thread nD τ).loc main_arg2) : FVec Ideal S1x2048x2048 .f32) (ix3 0 ⟨1024 + k.val, by omega⟩ ⟨p.val % 2 * 1024 + n.val, h⟩) := by
  blk_simp [iblk, idx_val p]
  entry_read
  pointwise
  blk_ext [idx_val p]

theorem rd4 (p : Fin cfg0.N) (r : Fin 512) (n : Fin 1024) (h : p.val / 2 * 512 + r.val < 16384) (h' : p.val % 2 * 1024 + n.val < 2048) :
    (show FVec Ideal S512x1024 .f32 from iblk m c 4 p) (ix2 r n)
      = (m ((c : Thread nD τ).loc main_arg3) : FVec Ideal S16384x2048 .f32) (ix2 ⟨p.val / 2 * 512 + r.val, h⟩ ⟨p.val % 2 * 1024 + n.val, h'⟩) := by
  blk_ext [iblk, V, idx_val p]

theorem final : (dats m 0 c).arrAt 5 (cfgs 0).N = Cert.ProjERefIdeal.Read.val_main_v5 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 5 _ (by decide +kernel) fun t hf y => ?_
  have hN := N_lt t
  have h0 : t.val / 2 * 512 + (y (0 : Fin 2)).val < 16384 := by have : (y (0 : Fin 2)).val < 512 := (y (0 : Fin 2)).isLt; omega
  have h1 : t.val % 2 * 1024 + (y (1 : Fin 2)).val < 2048 := by have : (y (1 : Fin 2)).val < 1024 := (y (1 : Fin 2)).isLt; omega
  have ee : ((cfg0.win 5).blk t).view.emb y = (ix2 ⟨t.val / 2 * 512 + (y (0 : Fin 2)).val, h0⟩ ⟨t.val % 2 * 1024 + (y (1 : Fin 2)).val, h1⟩ : S16384x2048.Idx) := by
    blk_ext [idx_val t]
  blk_simp
  rw [after0_5]
  unfold out0_5
  frame_out
  refine (pay_at _ _ _ _ _ y).trans ((add_assoc (G := EReal) _ _ _).trans ?_)
  refine Eq.trans ?_ (congrArg (Cert.ProjERefIdeal.Read.val_main_v5 (F := Ideal) _ _ _ _) ee.symm)
  rw [ref_at]
  refine congrArg₂ (fun a b : EReal => a + b) ((congrArg _ (eq_ix2 (n0 := 512) (n1 := 1024) y)).trans (rd4 m c t (y (0 : Fin 2)) (y (1 : Fin 2)) h0 h1))
    (congrArg₂ (fun a b : EReal => a + b)
      (Finset.sum_congr rfl fun k _ => congrArg₂ (fun a b : EReal => a * b) (rd0 m c t (y (0 : Fin 2)) k h0) (rd2 m c t k (y (1 : Fin 2)) h1))
      (Finset.sum_congr rfl fun k _ => congrArg₂ (fun a b : EReal => a * b) (rd1 m c t (y (0 : Fin 2)) k h0) (rd3 m c t k (y (1 : Fin 2)) h1)))

end Cert.ProjEIdeal.Mathematics

end
-- ==== Proof.OddKernel.lean ====
/- The odd layer's projections: the body at one grid point. A point belongs to a tile of rows (grid coordinate 0) and to
   a block of 512 columns (grid coordinate 1, twelve of them, four for each of the three results). At the first block the
   body normalises the tile's rows into the scratch buffer; at every block it stores the rows' product with the block's
   weights into the result the block belongs to. -/
module

public import proofs.«01_k».proof.Proof.Gen.NormOIdeal.Frame
public import proofs.«01_k».proof.Proof.Gen.NormOIdeal.Skeleton
public import proofs.«01_k».proof.Proof.Groups

@[expose] public section

set_option maxRecDepth 16384
set_option synthInstance.maxSize 4096
set_option synthInstance.maxHeartbeats 400000
set_option maxHeartbeats 2000000

noncomputable section

namespace Cert.NormOIdeal.Odd

open Cert.NormOIdeal.Gen Cert.Groups
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the body tests for a tile's first point. -/
abbrev at_first (i : grid0.Coords) : BitVec 1 :=
  Scalar.cmpi .ne (Scalar.extui (Scalar.cmpi .eq (BitVec.ofNat 32 (i 1).val) 0#32) : BitVec 32) 0#32

/-- Which of the body's stores a point makes: the first block's beside result 0's, or one result's alone. -/
def Stores (i : grid0.Coords) : Prop :=
  (at_first i = 1#1 ∧ k0_cond2 i = 1#1 ∧ ¬ k0_cond3 i = 1#1 ∧ ¬ k0_cond4 i = 1#1)
  ∨ (¬ at_first i = 1#1 ∧ k0_cond2 i = 1#1 ∧ ¬ k0_cond3 i = 1#1 ∧ ¬ k0_cond4 i = 1#1)
  ∨ (¬ at_first i = 1#1 ∧ ¬ k0_cond2 i = 1#1 ∧ k0_cond3 i = 1#1 ∧ ¬ k0_cond4 i = 1#1)
  ∨ (¬ at_first i = 1#1 ∧ ¬ k0_cond2 i = 1#1 ∧ ¬ k0_cond3 i = 1#1 ∧ k0_cond4 i = 1#1)

instance (i : grid0.Coords) : Decidable (Stores i) := by unfold Stores; infer_instance

theorem stores : ∀ t : Fin grid0.N, Stores (grid0.coords t) := by decide +kernel

variable (c : Dev nD) (i : grid0.Coords) (x0 : Vec F S512x2048 .f32) (x1 : Vec F S1x2048 .f32) (x2 : Vec F S2048x512 .bf16)

/-- The scratch after the point. -/
abbrev rows' (s : Vec F S512x2048 .bf16) : Vec F S512x2048 .bf16 := if at_first i = 1#1 then k0_pay1 x0 x1 else s

/-- The body, run on any whole memrefs: each result's buffer gets the product where the point stores it, and stays as
    it was elsewhere. -/
theorem runs (hS : Stores i) (o0 : Vec F S512x512 .bf16) (o1 o2 : Vec F S512x512 .f32) (s : Vec F S512x2048 .bf16)
    (arg2 : Memref sig .tc .vmem S512x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o0 ∗ owns (c : Thread nD τ) arg6 fullShare o1 ∗ owns (c : Thread nD τ) arg7 fullShare o2
        ∗ owns (c : Thread nD τ) arg8 fullShare s
        ∗ (iprop(owns (c : Thread nD τ) arg2 fullShare x0 ∗ owns (c : Thread nD τ) arg3 fullShare x1 ∗ owns (c : Thread nD τ) arg4 fullShare x2
          ∗ owns (c : Thread nD τ) arg5 fullShare (if k0_cond2 i = 1#1 then k0_pay3 (rows' i x0 x1 s) x2 else o0)
          ∗ owns (c : Thread nD τ) arg6 fullShare (if k0_cond3 i = 1#1 then k0_pay2 (rows' i x0 x1 s) x2 else o1)
          ∗ owns (c : Thread nD τ) arg7 fullShare (if k0_cond4 i = 1#1 then k0_pay2 (rows' i x0 x1 s) x2 else o2)
          ∗ owns (c : Thread nD τ) arg8 fullShare (rows' i x0 x1 s)) -∗ K ⟨⟩))
      ⊢ wp frame (wpE (defs₀ (F := F)) Variants.none c none) E
          (cc0_norm_proj i arg2 harg2 arg3 harg3 arg4 harg4 arg5 harg5 arg6 harg6 arg7 harg7 arg8 harg8) K := by
  unfold rows'
  simp only [cc0_norm_proj_eq_skeleton, k0_part1_eq_skeleton]
  unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs
  obtain ⟨h1, h2, h3, h4⟩ | ⟨h1, h2, h3, h4⟩ | ⟨h1, h2, h3, h4⟩ | ⟨h1, h2, h3, h4⟩ := hS
  all_goals (
    simp only [h1, h2, h3, h4, if_true, if_false]
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      first | with_reducible exact harg5.read_unread _ | (frame_open; rw [read_last _ _ _ _ _ (by decide)]; frame_out)
    isplitl [H4]
    · iexists _; isplitr; swap; · iexact H4
      ipureintro
      first | with_reducible exact harg6.read_unread _ | (frame_open; rw [read_last _ _ _ _ _ (by decide)]; frame_out)
    isplitl [H5]
    · iexists _; isplitr; swap; · iexact H5
      ipureintro
      first | with_reducible exact harg7.read_unread _ | (frame_open; rw [read_last _ _ _ _ _ (by decide)]; frame_out)
    iexists _; isplitr; swap; · iexact HS
    ipureintro
    first | with_reducible exact harg8.read_unread _ | (frame_open; rw [read_last _ _ _ _ _ (by decide)]; frame_out))

end Cert.NormOIdeal.Odd

end
-- ==== Proof.OddFrame.lean ====
/- The odd layer's projections: the run. Each result's buffer holds a block's product from the point that stores it to the
   point that writes it back, and the scratch holds the tile's normalised rows from the tile's first point on. From the
   body's specification at every point, the launch: what every array holds at the end (`run_main`), the arguments
   unchanged and the machine quiescent (`frame`). -/
module

public import proofs.«01_k».proof.Proof.OddKernel

@[expose] public section

set_option maxRecDepth 16384

noncomputable section

namespace Cert.NormOIdeal.Odd

open Cert.NormOIdeal.Gen Cert.Groups
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- The first block of columns stored into window `w`'s result; it has four. -/
def first (w : Fin 6) : ℕ := 4 * (w.val - 3)

/-- Window `w`'s result owns its four blocks. -/
theorem owns_of (w : Fin 6) (h3 : 3 ≤ w.val) : Owns cfg0 w (first w) (first w + 3) where
  le := Nat.le_add_right _ _
  lt := by have := w.isLt; unfold first; omega
  idle := (by decide +kernel : ∀ w : Fin 6, 3 ≤ w.val → ∀ t : Fin cfg0.N,
    cfg0.idle w (cfg0.grid.coords t) = !(decide (first w ≤ t.val % 12 ∧ t.val % 12 ≤ first w + 3))) w h3
  flush := (by simp only [Window.flush_eq_flushF]; decide +kernel : ∀ w : Fin 6, 3 ≤ w.val → ∀ t : Fin cfg0.N,
    (cfg0.win w).flush t = decide ((first w ≤ t.val % 12 ∧ t.val % 12 < first w + 3) ∨ t.val % 12 = 11)) w h3

/-- The rows are normalised at a tile's first point. -/
theorem at_first_eq : ∀ t : Fin cfg0.N, (at_first (grid0.coords t) = 1#1) ↔ t.val % 12 = 0 :=
  (by decide +kernel : ∀ t : Fin grid0.N, _)

/-! ## The proof data -/

variable (m : (ℓ : Loc nD τ sig) → Buf (Elt F) ℓ)

theorem N_lt (t : Fin cfg0.N) : t.val < 384 := Nat.lt_of_lt_of_eq t.isLt N_0
theorem N_mod : cfg0.N % 12 = 0 := by have h : cfg0.N = 384 := N_0; omega

/-- The tile's first point, and the point whose block of columns window `w`'s buffer holds after point `t` (once one has
    been stored). -/
def row (t : Fin cfg0.N) : Fin cfg0.N := ⟨t.val - t.val % 12, by have := t.isLt; omega⟩
def pt (w : Fin 6) (t : Fin cfg0.N) : Fin cfg0.N := Groups.pt N_mod (first w) (first w + 3) t

/-- A tile's normalised rows. -/
def xn (c : Dev nD) (t : Fin cfg0.N) : Vec F S512x2048 .bf16 := k0_pay1 (iblk m c 0 (row t)) (iblk m c 1 (row t))

/-- The invariant before point `n`: the scratch at the tile's normalised rows (anything, before the first point). -/
def PhiS (c : Dev nD) : (n : ℕ) → n ≤ cfg0.N → sProp 𝕄
  | 0, _ => Pipeline.ΦA spec0 c
  | n + 1, h => iprop(owns (c : Thread nD τ) (Memref.whole cc0_scratch0) fullShare (xn m c ⟨n, h⟩) ∗ (∃ r, prngReg c r))

theorem PhiS_zero (c : Dev nD) (n : ℕ) (h : n ≤ cfg0.N) (hz : n = 0) : PhiS m c n h = (Pipeline.ΦA spec0 c : sProp 𝕄) := by
  subst hz; rfl

theorem PhiS_pos (c : Dev nD) (n : ℕ) (h : n ≤ cfg0.N) (hz : n ≠ 0) :
    PhiS m c n h = iprop(owns (c : Thread nD τ) (Memref.whole cc0_scratch0) fullShare (xn m c ⟨n - 1, by omega⟩) ∗ (∃ r, prngReg c r)) := by
  cases n with
  | zero => exact absurd rfl hz
  | succ n => rfl

theorem PhiA0_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- The proof data: an input's buffer holds its block, a result's the product of the tile's rows with a block of columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (xn m c (pt 3 t)) (iblk m c 2 (pt 3 t))
    | ⟨4, _⟩ => k0_pay2 (xn m c (pt 4 t)) (iblk m c 2 (pt 4 t))
    | ⟨5, _⟩ => k0_pay2 (xn m c (pt 5 t)) (iblk m c 2 (pt 5 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = k0_pay3 (xn m c (pt 3 t)) (iblk m c 2 (pt 3 t)) := by dsimp only [dats]; try rfl
theorem after0_4 (c : Dev nD) (t : Fin cfg0.N) : (dats m 0 c).after 4 t = k0_pay2 (xn m c (pt 4 t)) (iblk m c 2 (pt 4 t)) := by dsimp only [dats]; try rfl
theorem after0_5 (c : Dev nD) (t : Fin cfg0.N) : (dats m 0 c).after 5 t = k0_pay2 (xn m c (pt 5 t)) (iblk m c 2 (pt 5 t)) := by dsimp only [dats]; try rfl

/-- The scratch after the body is the tile's rows. -/
theorem rows_of (c : Dev nD) (t : Fin cfg0.N) (s : Vec F S512x2048 .bf16) (hs : t.val % 12 ≠ 0 → s = xn m c t) :
    rows' (grid0.coords t) (iblk m c 0 t) (iblk m c 1 t) s = xn m c t := by
  unfold rows'
  by_cases h : at_first (grid0.coords t) = 1#1
  · have h0 := (at_first_eq t).1 h
    rw [if_pos h]
    unfold xn
    rw [show row t = t from Fin.ext (by unfold row; dsimp only; omega)]
  · rw [if_neg h]
    exact hs fun h' => h ((at_first_eq t).2 h')

theorem xn_carry (c : Dev nD) (t : Fin cfg0.N) (h : t.val % 12 ≠ 0) : xn m c ⟨t.val - 1, by omega⟩ = xn m c t := by
  unfold xn
  rw [show row ⟨t.val - 1, by omega⟩ = row t from Fin.ext (by unfold row; dsimp only; omega)]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t)

/-- The scratch before a point: at contents from which the body reaches the tile's rows. -/
theorem Phi_before (c : Dev nD) (t : Fin cfg0.N) :
    (dats m 0 c).Φ t.castSucc ⊢ (iprop(∃ s, ⌜rows' (grid0.coords t) (iblk m c 0 t) (iblk m c 1 t) s = xn m c t⌝
      ∗ owns (c : Thread nD τ) (Memref.whole cc0_scratch0) fullShare s ∗ (∃ r, prngReg c r)) : sProp 𝕄) := by
  rw [PhiS_castSucc]
  by_cases hz : t.val = 0
  · rw [PhiS_zero m c _ _ hz, PhiA0_eq]
    iintro ⟨⟨%s, HS⟩, Hg⟩
    iexists s
    isplitr
    · ipureintro; exact rows_of m c t s fun h => absurd (by rw [hz]) h
    isplitl [HS]; · iexact HS
    iexact Hg
  · rw [PhiS_pos m c _ _ hz]
    iintro ⟨HS, Hg⟩
    iexists _
    isplitr
    · ipureintro; exact rows_of m c t _ fun h => xn_carry m c t h
    isplitl [HS]; · iexact HS
    iexact Hg

section Leaves

variable (c : Dev nD) (t : Fin cfg0.N)

theorem leaves3 (d) : owns (c : Thread nD τ) (st0_3 t) fullShare (if k0_cond2 (grid0.coords t) = 1#1 then k0_pay3 (xn m c t) (iblk m c 2 t) else (dats m 0 c).before 3 t d)
    ⊢ ((dats m 0 c).leavesExact 3 t : sProp 𝕄) :=
  (owns_of 3 (by decide)).leaves (dats m 0 c) rfl (fun _ _ => rfl) (fun s _ h => by rw [after0_3, after0_3, show pt 3 s = _ from pt_carry N_mod s _ _ (Nat.le_add_right _ 3) h]; rfl) t d _ rfl _
    (fun h => by rw [after0_3, show pt 3 t = t from (owns_of 3 (by decide)).live N_mod t _ rfl h])
theorem leaves4 (d) : owns (c : Thread nD τ) (st0_4 t) fullShare (if k0_cond3 (grid0.coords t) = 1#1 then k0_pay2 (xn m c t) (iblk m c 2 t) else (dats m 0 c).before 4 t d)
    ⊢ ((dats m 0 c).leavesExact 4 t : sProp 𝕄) :=
  (owns_of 4 (by decide)).leaves (dats m 0 c) rfl (fun _ _ => rfl) (fun s _ h => by rw [after0_4, after0_4, show pt 4 s = _ from pt_carry N_mod s _ _ (Nat.le_add_right _ 3) h]; rfl) t d _ rfl _
    (fun h => by rw [after0_4, show pt 4 t = t from (owns_of 4 (by decide)).live N_mod t _ rfl h])
theorem leaves5 (d) : owns (c : Thread nD τ) (st0_5 t) fullShare (if k0_cond4 (grid0.coords t) = 1#1 then k0_pay2 (xn m c t) (iblk m c 2 t) else (dats m 0 c).before 5 t d)
    ⊢ ((dats m 0 c).leavesExact 5 t : sProp 𝕄) :=
  (owns_of 5 (by decide)).leaves (dats m 0 c) rfl (fun _ _ => rfl) (fun s _ h => by rw [after0_5, after0_5, show pt 5 s = _ from pt_carry N_mod s _ _ (Nat.le_add_right _ 3) h]; rfl) t d _ rfl _
    (fun h => by rw [after0_5, show pt 5 t = t from (owns_of 5 (by decide)).live N_mod t _ rfl h])

end Leaves

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after0_0 m c) t, before0_1_of m (dats m 0 c) (A_eq m c 1) (after0_1 m c) t,
    before0_2_of m (dats m 0 c) (A_eq m c 2) (after0_2 m c) t]
  rw [show (dats m 0 c).owesAt () t.succ = (dats m 0 c).owesAt () t.castSucc from rfl,
    show (dats m 0 c).Φ t.succ = PhiS m c (t.val + 1) t.isLt from rfl, PhiS_pos m c (t.val + 1) t.isLt (Nat.succ_ne_zero _),
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl]
  iintro ⟨HΦ, Ho, ⟨%d0, H0⟩, ⟨%d1, H1⟩, ⟨%d2, H2⟩, ⟨%d3, H3⟩, ⟨%d4, H4⟩, ⟨%d5, H5⟩⟩
  ihave ⟨%s, %hs, HS, Hg⟩ := (Phi_before m c t) $$ HΦ
  have key := runs (F := F) c (grid0.coords t) (iblk m c 0 t) (iblk m c 1 t) (iblk m c 2 t) (stores t)
    ((dats m 0 c).before 3 t d3) ((dats m 0 c).before 4 t d4) ((dats m 0 c).before 5 t d5) s
  rw [hs] at key
  unfold bodyAt0
  iapply (key _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (hstage0_5 ((cfg0.slots t 5).cast nbuf0_5))
    _ (Memref.isWhole_whole _) Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iapply (leaves3 m c t d3); iexact H3
  isplitl [H4]; · iapply (leaves4 m c t d4); iexact H4
  iapply (leaves5 m c t d5); iexact H5

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- after the last point the scratch's contents are forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by have : cfg0.N = 384 := N_0; omega), PhiA0_eq]
  iintro ⟨HS, Hg⟩
  isplitl [HS]
  · iexists _; iexact HS
  iexact Hg

/-! ## The run and the frame -/

variable (ρ : Dev nD → PrngReg)

-- the library's launch is stated of any pipeline, and is fitted to this one by unfolding plain definitions
set_option backward.isDefEq.respectTransparency.types false in
/-- The launch: every execution ends with the arrays as the proof data say and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are as they were: the region reads the rows where they are, and never writes them back. -/
theorem args_of (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    (h c).2 main_arg1 (Pipeline.mem_restRefs_of main_arg1 (by decide) (by decide)) |>.trans (V_main_arg1 m c),
    (h c).2 main_arg2 (Pipeline.mem_restRefs_of main_arg2 (by decide) (by decide)) |>.trans (V_main_arg2 m c)⟩

/-- Every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_of m r h.1 c, h.2⟩) (run_main_quiescent m ρ)

end Cert.NormOIdeal.Odd

end
-- ==== Proof.OddBits.lean ====
/- The odd layer's projections at the kernel's own floats: the same program text as at the extended reals, so its frame is
   the one proved for every float type. -/
module

public import proofs.«01_k».proof.Proof.OddFrame
public import proofs.«01_k».proof.Proof.Gen.NormO

@[expose] public section

noncomputable section

open Idealize Idealize.ShloMosaic Idealize.ShloMosaic.TcCoe Idealize.SL.Sem

namespace Cert.NormOIdeal.Odd

variable {F : FTy → Type} [FloatOps F]

set_option maxHeartbeats 1000000

theorem defs₀_eq : Cert.NormO.defs₀ (F := F) = Cert.NormOIdeal.defs₀ (F := F) := by
  unfold Cert.NormO.defs₀ Cert.NormOIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.NormO.defs (F := F) = Cert.NormOIdeal.defs (F := F) := congrArg (Pipeline.defs Cert.NormOIdeal.pcfgs) defs₀_eq

theorem frame_bits (m : (ℓ : Loc Cert.NormO.nD Cert.NormO.τ Cert.NormO.sig) → Buf (Elt F) ℓ) (g : Dev Cert.NormO.nD → PrngReg) :
    θ_run (Cert.NormO.defs (F := F)) (onTc (τ := Cert.NormO.τ) (Cert.NormO.main (F := F))) ⟨m, fun _ => 0, g⟩ (fun r => (∀ c : Dev Cert.NormO.nD,
      r.2.mem ((c.tc : Thread Cert.NormO.nD Cert.NormO.τ).loc Cert.NormO.main_arg0) = m ((c.tc : Thread Cert.NormO.nD Cert.NormO.τ).loc Cert.NormO.main_arg0)
      ∧ r.2.mem ((c.tc : Thread Cert.NormO.nD Cert.NormO.τ).loc Cert.NormO.main_arg1) = m ((c.tc : Thread Cert.NormO.nD Cert.NormO.τ).loc Cert.NormO.main_arg1)
      ∧ r.2.mem ((c.tc : Thread Cert.NormO.nD Cert.NormO.τ).loc Cert.NormO.main_arg2) = m ((c.tc : Thread Cert.NormO.nD Cert.NormO.τ).loc Cert.NormO.main_arg2))
      ∧ r.2.sem = fun _ => 0) := by
  rw [defs_eq]
  exact Cert.NormOIdeal.Odd.frame (F := F) m g

end Cert.NormOIdeal.Odd

end
-- ==== Proof.OddValue.lean ====
/- The odd layer's projections: what the kernel's result arrays hold at the end is what the reference computes. -/
module

public import proofs.«01_k».proof.Proof.OddFrame
public import proofs.«01_k».proof.Proof.Spec
public import proofs.«01_k».proof.Proof.Gen.NormORefIdeal.Run
public import proofs.«01_k».proof.Proof.Gen.NormORefIdeal.Read
public import Idealize.ShloMosaic.Lib.Pipeline.Covers
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.NormOIdeal.Mathematics

open Cert.NormOIdeal Cert.NormOIdeal.Gen Cert.NormOIdeal.Odd Cert.Groups Cert.Spec

/-! ## The body's values -/

theorem rows_at (h : FVec Ideal S512x2048 .f32) (g : FVec Ideal S1x2048 .f32) (r : Fin 512) (k : Fin 2048) :
    k0_pay1 (F := Ideal) h g (ix2 r k) = nrm (fun x => h (ix2 r x)) (fun x => g (ix2 0 x)) k := by
  pointwise [k0_pay1]
  rfl

theorem prod_at (s : FVec Ideal S512x2048 .bf16) (w : FVec Ideal S2048x512 .bf16) (r n : Fin 512) :
    k0_pay2 (F := Ideal) s w (ix2 r n) = ∑ k : Fin 2048, s (ix2 r k) * w (ix2 k n) := by
  pointwise [k0_pay2]

/-! ## The reference's values -/

section

open Cert.NormORefIdeal.Read

variable (a0 : FVec Ideal S16384x2048 .f32) (a1 : FVec Ideal S1x2048 .f32) (a2 : FVec Ideal S1x2048x6144 .f32)

/-- Row `R`, normalised, times column `n` of the weights. -/
def proj (R : Fin 16384) (n : Fin 6144) : EReal :=
  ∑ k : Fin 2048, nrm (fun x => a0 (ix2 R x)) (fun x => a1 (ix2 0 x)) k * a2 (ix3 0 k n)

theorem ref_at (i : Cert.NormORefIdeal.S16384x6144.Idx) : val_main_v15 (F := Ideal) a0 a1 a2 i = proj a0 a1 a2 (i 0) (i 1) := by
  unfold val_main_v15 val_main_v13 val_main_v10 val_main_v14 val_main_v12 val_main_v11 val_main_v0 val_main_v9 val_main_v8
    val_main_v7 val_main_v6 val_main_v5 val_main_v4 val_main_v3 val_main_v2 val_main_v1 val_main_cst val_main_cst_0 val_main_cst_1
  pointwise
  rfl

end

/-! ## The arrays the region reads -/

variable (m : (ℓ : Loc nD τ sig) → Buf (Elt Ideal) ℓ) (c : Dev nD)

theorem V_x (R : Fin 16384) (x : Fin 2048) : (V m c main_arg0 : FVec Ideal S16384x2048 .f32) (ix2 R x)
    = (m ((c : Thread nD τ).loc main_arg0) : FVec Ideal S16384x2048 .f32) (ix2 R x) :=
  congrFun (V_main_arg0 m c) (ix2 R x)

theorem V_g (x : Fin 2048) : (V m c main_v3 : FVec Ideal S1x2048 .f32) (ix2 0 x)
    = (m ((c : Thread nD τ).loc main_arg1) : FVec Ideal S1x2048 .f32) (ix2 0 x) := by
  simp only [V, hostOps0, List.flatten_cons, List.flatten_nil, List.append_nil, List.cons_append, List.nil_append]
  entry_read
  pointwise

theorem V_w (k : Fin 2048) (n : Fin 6144) : (V m c main_v2 : FVec Ideal S2048x6144 .bf16) (ix2 k n)
    = (m ((c : Thread nD τ).loc main_arg2) : FVec Ideal S1x2048x6144 .f32) (ix3 0 k n) := by
  simp only [V, hostOps0, List.flatten_cons, List.flatten_nil, List.append_nil, List.cons_append, List.nil_append]
  entry_read
  pointwise

/-! ## The windows' blocks -/

theorem idx_val : ∀ t : Fin cfg0.N, win0_0.index t = ![t.val / 12, 0]
    ∧ win0_1.index t = ![0, 0]
    ∧ win0_2.index t = ![0, t.val % 12]
    ∧ win0_3.index t = ![t.val / 12, min 3 (t.val % 12 - 0)]
    ∧ win0_4.index t = ![t.val / 12, min 3 (t.val % 12 - 4)]
    ∧ win0_5.index t = ![t.val / 12, min 3 (t.val % 12 - 8)] :=
  (by decide +kernel : ∀ t : Fin grid0.N, _)

theorem rd0 (p : Fin cfg0.N) (r : Fin 512) (x : Fin 2048) (h : p.val / 12 * 512 + r.val < 16384) :
    (show FVec Ideal S512x2048 .f32 from iblk m c 0 p) (ix2 r x) = (V m c main_arg0 : FVec Ideal S16384x2048 .f32) (ix2 ⟨p.val / 12 * 512 + r.val, h⟩ x) := by
  generalize hV : (V m c main_arg0 : FVec Ideal S16384x2048 .f32) = v
  blk_ext [iblk, V, idx_val p, hV]
theorem rd1 (p : Fin cfg0.N) (x : Fin 2048) :
    (show FVec Ideal S1x2048 .f32 from iblk m c 1 p) (ix2 0 x) = (V m c main_v3 : FVec Ideal S1x2048 .f32) (ix2 0 x) := by
  blk_ext [iblk, idx_val p]
theorem rd2 (p : Fin cfg0.N) (k : Fin 2048) (n : Fin 512) (h : p.val % 12 * 512 + n.val < 6144) :
    (show FVec Ideal S2048x512 .bf16 from iblk m c 2 p) (ix2 k n) = (V m c main_v2 : FVec Ideal S2048x6144 .bf16) (ix2 k ⟨p.val % 12 * 512 + n.val, h⟩) := by
  blk_ext [iblk, idx_val p]

/-! ## What the buffers hold, and the arrays at the end -/

theorem rows_lt (p : Fin cfg0.N) (r : Fin 512) : p.val / 12 * 512 + r.val < 16384 := by have := N_lt p; omega
theorem cols_lt (p : Fin cfg0.N) (n : Fin 512) : p.val % 12 * 512 + n.val < 6144 := by omega

/-- The product at point `p`. -/
theorem block_at (p : Fin cfg0.N) (r n : Fin 512) :
    k0_pay2 (F := Ideal) (xn m c p) (iblk m c 2 p) (ix2 r n)
      = proj (m ((c : Thread nD τ).loc main_arg0)) (m ((c : Thread nD τ).loc main_arg1)) (m ((c : Thread nD τ).loc main_arg2))
        ⟨p.val / 12 * 512 + r.val, rows_lt p r⟩ ⟨p.val % 12 * 512 + n.val, cols_lt p n⟩ := by
  refine (prod_at _ _ r n).trans (Finset.sum_congr rfl fun k _ => congrArg₂ (fun a b : EReal => a * b) ?_ ?_)
  · unfold xn
    refine (rows_at _ _ r k).trans (congrArg₂ (fun a b => nrm a b k)
      (funext fun x => (rd0 m c (row p) r x (rows_lt (row p) r)).trans ((V_x m c _ x).trans ?_))
      (funext fun x => (rd1 m c (row p) x).trans (V_g m c x)))
    have e : (row p).val / 12 = p.val / 12 := by unfold row; dsimp only; omega
    simp only [e]
  · exact (rd2 m c p k n (cols_lt p n)).trans (V_w m c k _)

/-- A result's buffer at a write-back is the product of the tile's rows and the columns of the block written. -/
theorem at_flush (t : Fin cfg0.N) (y : S512x512.Idx) (w : Fin 6) (h3 : 3 ≤ w.val) (hf : (cfg0.win w).flush t = true) (R : Fin 16384) (C : Fin 6144)
    (hR : R.val = t.val / 12 * 512 + (y 0).val) (hC : C.val = 512 * first w + (min 3 (t.val % 12 - first w) * 512 + (y 1).val)) :
    k0_pay2 (F := Ideal) (xn m c (Odd.pt w t)) (iblk m c 2 (Odd.pt w t)) y
      = proj (m ((c : Thread nD τ).loc main_arg0)) (m ((c : Thread nD τ).loc main_arg1)) (m ((c : Thread nD τ).loc main_arg2)) R C := by
  have e1 : (Odd.pt w t).val / 12 = t.val / 12 := pt_row N_mod t _ _
  have e2 : (Odd.pt w t).val % 12 = first w + min (first w + 3 - first w) (t.val % 12 - first w) := (owns_of w h3).pt_flush N_mod t hf
  rw [eq_ix2 y]
  refine (block_at m c (Odd.pt w t) (y 0) (y 1)).trans (congrArg₂ (proj _ _ _) (Fin.ext ?_) (Fin.ext ?_))
  · rw [hR, ← e1]
  · rw [hC]
    show (Odd.pt w t).val % 12 * 512 + (y 1).val = _
    omega

theorem part_lt (j : ℕ) (n : Fin 512) : min 3 j * 512 + n.val < 2048 := by omega

/-! ## The result arrays at the end -/

open Cert.NormORefIdeal.Read

theorem final3 : (dats m 0 c).arrAt 3 (cfgs 0).N = val_main_v19 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ee : ((cfg0.win 3).blk t).view.emb y = (ix2 ⟨t.val / 12 * 512 + (y (0 : Fin 2)).val, rows_lt t (y (0 : Fin 2))⟩
      ⟨min 3 (t.val % 12 - 0) * 512 + (y (1 : Fin 2)).val, part_lt _ (y (1 : Fin 2))⟩ : S16384x2048.Idx) := by
    blk_ext [idx_val t]
  blk_simp
  rw [after0_3]
  refine Eq.trans (α := EReal) (at_flush m c t y 3 (by decide) hf ⟨t.val / 12 * 512 + (y (0 : Fin 2)).val, rows_lt t (y (0 : Fin 2))⟩
    ⟨0 + (min 3 (t.val % 12 - 0) * 512 + (y (1 : Fin 2)).val), by have := part_lt (t.val % 12 - 0) (y (1 : Fin 2)); omega⟩ rfl rfl) ?_
  refine Eq.trans ?_ (congrArg (val_main_v19 (F := Ideal) _ _ _) ee.symm)
  rw [val_main_v19_apply, val_main_v16_apply, ref_at]
  exact congrArg (proj _ _ _ _) (Fin.ext (Nat.zero_add _))

theorem final4 : (dats m 0 c).arrAt 4 (cfgs 0).N = val_main_v17 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  have ee : ((cfg0.win 4).blk t).view.emb y = (ix2 ⟨t.val / 12 * 512 + (y (0 : Fin 2)).val, rows_lt t (y (0 : Fin 2))⟩
      ⟨min 3 (t.val % 12 - 4) * 512 + (y (1 : Fin 2)).val, part_lt _ (y (1 : Fin 2))⟩ : S16384x2048.Idx) := by
    blk_ext [idx_val t]
  blk_simp
  rw [after0_4]
  refine Eq.trans (α := EReal) (at_flush m c t y 4 (by decide) hf ⟨t.val / 12 * 512 + (y (0 : Fin 2)).val, rows_lt t (y (0 : Fin 2))⟩
    ⟨2048 + (min 3 (t.val % 12 - 4) * 512 + (y (1 : Fin 2)).val), by have := part_lt (t.val % 12 - 4) (y (1 : Fin 2)); omega⟩ rfl rfl) ?_
  refine Eq.trans ?_ (congrArg (val_main_v17 (F := Ideal) _ _ _) ee.symm)
  rw [val_main_v17_apply, ref_at]
  rfl

theorem final5 : (dats m 0 c).arrAt 5 (cfgs 0).N = val_main_v18 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  have ee : ((cfg0.win 5).blk t).view.emb y = (ix2 ⟨t.val / 12 * 512 + (y (0 : Fin 2)).val, rows_lt t (y (0 : Fin 2))⟩
      ⟨min 3 (t.val % 12 - 8) * 512 + (y (1 : Fin 2)).val, part_lt _ (y (1 : Fin 2))⟩ : S16384x2048.Idx) := by
    blk_ext [idx_val t]
  blk_simp
  rw [after0_5]
  refine Eq.trans (α := EReal) (at_flush m c t y 5 (by decide) hf ⟨t.val / 12 * 512 + (y (0 : Fin 2)).val, rows_lt t (y (0 : Fin 2))⟩
    ⟨4096 + (min 3 (t.val % 12 - 8) * 512 + (y (1 : Fin 2)).val), by have := part_lt (t.val % 12 - 8) (y (1 : Fin 2)); omega⟩ rfl rfl) ?_
  refine Eq.trans ?_ (congrArg (val_main_v18 (F := Ideal) _ _ _) ee.symm)
  rw [val_main_v18_apply, ref_at]
  rfl

end Cert.NormOIdeal.Mathematics

end
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn
public import proofs.«01_k».proof.Proof.Gen.Moe
public import proofs.«01_k».proof.Proof.Gen.MoeIdeal
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_routed
public import proofs.«01_k».proof.Proof.Gen.On_used_rows
public import proofs.«01_k».proof.Proof.MoeBits
public import proofs.«01_k».proof.Proof.MoeValue
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.NormBits
public import proofs.«01_k».proof.Proof.NormValue
public import proofs.«01_k».proof.Proof.Proj
public import proofs.«01_k».proof.Proof.Gen.ProjE
public import proofs.«01_k».proof.Proof.Gen.ProjE.Frame
public import proofs.«01_k».proof.Proof.Gen.ProjEIdeal
public import proofs.«01_k».proof.Proof.Gen.ProjEIdeal.Frame
public import proofs.«01_k».proof.Proof.Gen.ProjEIdeal.Value
public import proofs.«01_k».proof.Proof.Gen.ProjERefIdeal
public import proofs.«01_k».proof.Proof.Gen.ProjERefIdeal.Run
public import proofs.«01_k».proof.Proof.Gen.ProjERefIdeal.Read
public import proofs.«01_k».proof.Proof.Gen.ProjO
public import proofs.«01_k».proof.Proof.Gen.ProjO.Frame
public import proofs.«01_k».proof.Proof.Gen.ProjOIdeal
public import proofs.«01_k».proof.Proof.Gen.ProjOIdeal.Frame
public import proofs.«01_k».proof.Proof.Gen.ProjOIdeal.Value
public import proofs.«01_k».proof.Proof.Gen.ProjORefIdeal
public import proofs.«01_k».proof.Proof.Gen.ProjORefIdeal.Run
public import proofs.«01_k».proof.Proof.Gen.ProjORefIdeal.Read
public import proofs.«01_k».proof.Proof.Gen.NormO
public import proofs.«01_k».proof.Proof.Gen.NormOIdeal
public import proofs.«01_k».proof.Proof.Gen.NormOIdeal.Frame
public import proofs.«01_k».proof.Proof.Gen.NormOIdeal.Skeleton
public import proofs.«01_k».proof.Proof.Gen.NormORefIdeal
public import proofs.«01_k».proof.Proof.Gen.NormORefIdeal.Run
public import proofs.«01_k».proof.Proof.Gen.NormORefIdeal.Read
public import proofs.«01_k».proof.Proof.OddBits
public import proofs.«01_k».proof.Proof.OddValue
public import Idealize.ShloMosaic.Lib.Claim
public import Idealize.ShloMosaic.Adequacy
public import Idealize.ShloMosaic.Init

@[expose] public section

noncomputable section

namespace Cert.Proof

open Idealize.ShloMosaic Idealize.SL.Sem

theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_ffn : Cert.algebraic_FfnIdeal_FfnRefIdeal := by
  pair_intro
  · run_from Cert.FfnIdeal.Gen.run_main m g
  · run_from Cert.FfnRefIdeal.Value.run m' g'
    exact (Cert.FfnIdeal.Mathematics.final m _).symm

theorem frame_moe : Cert.quiescent_Moe := fun m ρ hpre =>
  Cert.MoeIdeal.Routed.frame_bits (F := Bits) m ρ (Cert.MoeIdeal.Routed.inRange_of_pre (F := Bits) m hpre)

theorem frame_moe_ideal : Cert.quiescent_MoeIdeal := fun m ρ hpre =>
  have hR := Cert.MoeIdeal.Routed.inRange_of_pre (F := Ideal) m hpre
  Cert.MoeIdeal.Routed.frame (F := Ideal) m ρ hR (Cert.MoeIdeal.Routed.ok_of_inRange m hR)

theorem frame_moe_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem algebraic_moe : Cert.algebraic_MoeIdeal_MoeRefIdeal_on_used_rows := by
  intro m g m' g' hpre hagree
  have hR := Cert.MoeIdeal.Routed.inRange_of_pre (F := Ideal) m hpre
  have hO := Cert.MoeIdeal.Routed.ok_of_inRange m hR
  refine ⟨fun c => Cert.MoeRefIdeal.Read.val_main_v162 (F := Ideal)
      (m (c.tc.loc Cert.MoeIdeal.main_arg0)) (m (c.tc.loc Cert.MoeIdeal.main_arg2)) (m (c.tc.loc Cert.MoeIdeal.main_arg3))
      (m (c.tc.loc Cert.MoeIdeal.main_arg4)) (m (c.tc.loc Cert.MoeIdeal.main_arg5)) (m (c.tc.loc Cert.MoeIdeal.main_arg6)), ?_, ?_⟩
  · refine (θ_run Cert.MoeIdeal.defs _ _).mono (fun r h c => ⟨fun i hi => ?_, Cert.MoeIdeal.Routed.args_of m hO r h c⟩)
      (Cert.MoeIdeal.Routed.run_main m g hR hO)
    exact (congrFun ((h c).1 5) i).trans (Cert.MoeIdeal.Mathematics.final m hR hO c i (Cert.MoeIdeal.Routed.row_of_mask m hR c i hi))
  · refine (θ_run Cert.MoeRefIdeal.defs _ _).mono (fun r h c => ⟨fun i _ => ?_, (h c).2⟩) (Cert.MoeRefIdeal.Value.run (F := Ideal) m' g')
    refine (congrFun ((h c).1.trans (Cert.MoeRefIdeal.Read.val_main_v162_eq _)) i).trans ?_
    obtain ⟨h0, h1, h2, h3, h4, h5, h6⟩ := hagree c
    show Cert.MoeRefIdeal.Read.val_main_v162 (F := Ideal)
      (m' (c.tc.loc Cert.MoeRefIdeal.main_arg0)) (m' (c.tc.loc Cert.MoeRefIdeal.main_arg2)) (m' (c.tc.loc Cert.MoeRefIdeal.main_arg3))
      (m' (c.tc.loc Cert.MoeRefIdeal.main_arg4)) (m' (c.tc.loc Cert.MoeRefIdeal.main_arg5)) (m' (c.tc.loc Cert.MoeRefIdeal.main_arg6)) i = _
    rw [h0, h2, h3, h4, h5, h6]

theorem frame_norm_ref : Cert.quiescent_NormRefIdeal := fun m ρ _ =>
  (θ_run Cert.NormRefIdeal.defs _ _).mono
    (fun r h => ⟨fun c => (h c).2.2.2.2.2.2.2, sem_eq_zero_of_no_sems (by decide) r.2⟩)
    (Cert.NormRefIdeal.Value.run (F := Ideal) m ρ)

/-- The reference's run, with each result named by its stage. -/
theorem run_norm_ref (m : (ℓ : Loc Cert.NormRefIdeal.nD Cert.NormRefIdeal.τ Cert.NormRefIdeal.sig) → Buf (Elt Ideal) ℓ)
    (g : Dev Cert.NormRefIdeal.nD → PrngReg)
    (a0 : Dev Cert.NormRefIdeal.nD → (⟨Cert.NormRefIdeal.S4x4096x2048, .f32⟩ : BufTy).Contents (Elt Ideal))
    (a1 : Dev Cert.NormRefIdeal.nD → (⟨Cert.NormRefIdeal.S1x2048, .f32⟩ : BufTy).Contents (Elt Ideal))
    (a2 : Dev Cert.NormRefIdeal.nD → (⟨Cert.NormRefIdeal.S1x2048x6152, .f32⟩ : BufTy).Contents (Elt Ideal))
    (a3 : Dev Cert.NormRefIdeal.nD → (⟨Cert.NormRefIdeal.S1x8, .f32⟩ : BufTy).Contents (Elt Ideal))
    (h0 : ∀ c : Dev Cert.NormRefIdeal.nD, m ((c.tc : Thread Cert.NormRefIdeal.nD Cert.NormRefIdeal.τ).loc Cert.NormRefIdeal.main_arg0) = a0 c)
    (h1 : ∀ c : Dev Cert.NormRefIdeal.nD, m ((c.tc : Thread Cert.NormRefIdeal.nD Cert.NormRefIdeal.τ).loc Cert.NormRefIdeal.main_arg1) = a1 c)
    (h2 : ∀ c : Dev Cert.NormRefIdeal.nD, m ((c.tc : Thread Cert.NormRefIdeal.nD Cert.NormRefIdeal.τ).loc Cert.NormRefIdeal.main_arg2) = a2 c)
    (h3 : ∀ c : Dev Cert.NormRefIdeal.nD, m ((c.tc : Thread Cert.NormRefIdeal.nD Cert.NormRefIdeal.τ).loc Cert.NormRefIdeal.main_arg3) = a3 c) :
    θ_run (Cert.NormRefIdeal.defs (F := Ideal)) (onTc (τ := Cert.NormRefIdeal.τ) (Cert.NormRefIdeal.main (F := Ideal)))
      ⟨m, fun _ => 0, g⟩ (fun r => ∀ c : Dev Cert.NormRefIdeal.nD,
        r.2.mem ((c.tc : Thread Cert.NormRefIdeal.nD Cert.NormRefIdeal.τ).loc Cert.NormRefIdeal.main_v25) = Cert.NormRefIdeal.Read.val_main_v25 (F := Ideal) (a0 c) (a1 c) (a2 c)
        ∧ r.2.mem ((c.tc : Thread Cert.NormRefIdeal.nD Cert.NormRefIdeal.τ).loc Cert.NormRefIdeal.main_v19) = Cert.NormRefIdeal.Read.val_main_v19 (F := Ideal) (a0 c) (a1 c) (a2 c)
        ∧ r.2.mem ((c.tc : Thread Cert.NormRefIdeal.nD Cert.NormRefIdeal.τ).loc Cert.NormRefIdeal.main_v20) = Cert.NormRefIdeal.Read.val_main_v20 (F := Ideal) (a0 c) (a1 c) (a2 c)
        ∧ r.2.mem ((c.tc : Thread Cert.NormRefIdeal.nD Cert.NormRefIdeal.τ).loc Cert.NormRefIdeal.main_v26) = Cert.NormRefIdeal.Read.val_main_v26 (F := Ideal) (a0 c) (a1 c) (a2 c)
        ∧ r.2.mem ((c.tc : Thread Cert.NormRefIdeal.nD Cert.NormRefIdeal.τ).loc Cert.NormRefIdeal.main_v23) = Cert.NormRefIdeal.Read.val_main_v23 (F := Ideal) (a0 c) (a1 c) (a2 c)
        ∧ r.2.mem ((c.tc : Thread Cert.NormRefIdeal.nD Cert.NormRefIdeal.τ).loc Cert.NormRefIdeal.main_v24) = Cert.NormRefIdeal.Read.val_main_v24 (F := Ideal) (a0 c) (a1 c) (a2 c)
        ∧ r.2.mem ((c.tc : Thread Cert.NormRefIdeal.nD Cert.NormRefIdeal.τ).loc Cert.NormRefIdeal.main_v30) = Cert.NormRefIdeal.Read.val_main_v30 (F := Ideal) (a0 c) (a1 c) (a2 c) (a3 c)
        ∧ r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
        ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
        ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
        ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)) := by
  obtain rfl : a0 = fun c : Dev Cert.NormRefIdeal.nD => m ((c.tc : Thread Cert.NormRefIdeal.nD Cert.NormRefIdeal.τ).loc Cert.NormRefIdeal.main_arg0) :=
    funext fun c => (h0 c).symm
  obtain rfl : a1 = fun c : Dev Cert.NormRefIdeal.nD => m ((c.tc : Thread Cert.NormRefIdeal.nD Cert.NormRefIdeal.τ).loc Cert.NormRefIdeal.main_arg1) :=
    funext fun c => (h1 c).symm
  obtain rfl : a2 = fun c : Dev Cert.NormRefIdeal.nD => m ((c.tc : Thread Cert.NormRefIdeal.nD Cert.NormRefIdeal.τ).loc Cert.NormRefIdeal.main_arg2) :=
    funext fun c => (h2 c).symm
  obtain rfl : a3 = fun c : Dev Cert.NormRefIdeal.nD => m ((c.tc : Thread Cert.NormRefIdeal.nD Cert.NormRefIdeal.τ).loc Cert.NormRefIdeal.main_arg3) :=
    funext fun c => (h3 c).symm
  exact (θ_run Cert.NormRefIdeal.defs _ _).mono (fun r h c => by
    obtain ⟨q, k, v, q', k', v', f, args⟩ := h c
    exact ⟨q.trans (Cert.NormRefIdeal.Read.val_main_v25_eq ..), k.trans (Cert.NormRefIdeal.Read.val_main_v19_eq ..),
      v.trans (Cert.NormRefIdeal.Read.val_main_v20_eq ..), q'.trans (Cert.NormRefIdeal.Read.val_main_v26_eq ..),
      k'.trans (Cert.NormRefIdeal.Read.val_main_v23_eq ..), v'.trans (Cert.NormRefIdeal.Read.val_main_v24_eq ..),
      f.trans (Cert.NormRefIdeal.Read.val_main_v30_eq ..), args⟩) (Cert.NormRefIdeal.Value.run (F := Ideal) m g)

theorem algebraic_norm : Cert.algebraic_NormIdeal_NormRefIdeal := by
  intro m g m' g' _ hagree
  let a0 : Dev Cert.NormIdeal.nD → (⟨Cert.NormRefIdeal.S4x4096x2048, .f32⟩ : BufTy).Contents (Elt Ideal) :=
    fun c => m (c.tc.loc Cert.NormIdeal.main_arg0)
  let a1 : Dev Cert.NormIdeal.nD → (⟨Cert.NormRefIdeal.S1x2048, .f32⟩ : BufTy).Contents (Elt Ideal) :=
    fun c => m (c.tc.loc Cert.NormIdeal.main_arg1)
  let a2 : Dev Cert.NormIdeal.nD → (⟨Cert.NormRefIdeal.S1x2048x6152, .f32⟩ : BufTy).Contents (Elt Ideal) :=
    fun c => m (c.tc.loc Cert.NormIdeal.main_arg2)
  let a3 : Dev Cert.NormIdeal.nD → (⟨Cert.NormRefIdeal.S1x8, .f32⟩ : BufTy).Contents (Elt Ideal) :=
    fun c => m (c.tc.loc Cert.NormIdeal.main_arg3)
  refine ⟨fun c => Cert.NormRefIdeal.Read.val_main_v25 (F := Ideal) (a0 c) (a1 c) (a2 c),
    fun c => Cert.NormRefIdeal.Read.val_main_v19 (F := Ideal) (a0 c) (a1 c) (a2 c),
    fun c => Cert.NormRefIdeal.Read.val_main_v20 (F := Ideal) (a0 c) (a1 c) (a2 c),
    fun c => Cert.NormRefIdeal.Read.val_main_v26 (F := Ideal) (a0 c) (a1 c) (a2 c),
    fun c => Cert.NormRefIdeal.Read.val_main_v23 (F := Ideal) (a0 c) (a1 c) (a2 c),
    fun c => Cert.NormRefIdeal.Read.val_main_v24 (F := Ideal) (a0 c) (a1 c) (a2 c),
    fun c => Cert.NormRefIdeal.Read.val_main_v30 (F := Ideal) (a0 c) (a1 c) (a2 c) (a3 c), ?_,
    run_norm_ref m' g' a0 a1 a2 a3 (fun c => (hagree c).1) (fun c => (hagree c).2.1)
    (fun c => (hagree c).2.2.1) (fun c => (hagree c).2.2.2)⟩
  refine (θ_run Cert.NormIdeal.defs _ _).mono (fun r h c => ?_) (Cert.NormIdeal.Even.run_main m g)
  exact ⟨((h c).1 5).trans (Cert.NormIdeal.Mathematics.final5 m c), ((h c).1 6).trans (Cert.NormIdeal.Mathematics.final6 m c),
    ((h c).1 7).trans (Cert.NormIdeal.Mathematics.final7 m c), ((h c).1 8).trans (Cert.NormIdeal.Mathematics.final8 m c),
    ((h c).1 9).trans (Cert.NormIdeal.Mathematics.final9 m c), ((h c).1 10).trans (Cert.NormIdeal.Mathematics.final10 m c),
    ((h c).1 11).trans (Cert.NormIdeal.Mathematics.final11 m c), Cert.NormIdeal.Even.args_of m r h c⟩

theorem frame_norm_odd_ref : Cert.quiescent_NormORefIdeal := fun m ρ _ =>
  (θ_run Cert.NormORefIdeal.defs _ _).mono
    (fun r h => ⟨fun c => (h c).2.2.2, sem_eq_zero_of_no_sems (by decide) r.2⟩)
    (Cert.NormORefIdeal.Value.run (F := Ideal) m ρ)

theorem algebraic_norm_odd : Cert.algebraic_NormOIdeal_NormORefIdeal := by
  intro m g m' g' _ hagree
  refine ⟨fun c => Cert.NormORefIdeal.Read.val_main_v19 (F := Ideal)
      (m (c.tc.loc Cert.NormOIdeal.main_arg0)) (m (c.tc.loc Cert.NormOIdeal.main_arg1)) (m (c.tc.loc Cert.NormOIdeal.main_arg2)),
    fun c => Cert.NormORefIdeal.Read.val_main_v17 (F := Ideal)
      (m (c.tc.loc Cert.NormOIdeal.main_arg0)) (m (c.tc.loc Cert.NormOIdeal.main_arg1)) (m (c.tc.loc Cert.NormOIdeal.main_arg2)),
    fun c => Cert.NormORefIdeal.Read.val_main_v18 (F := Ideal)
      (m (c.tc.loc Cert.NormOIdeal.main_arg0)) (m (c.tc.loc Cert.NormOIdeal.main_arg1)) (m (c.tc.loc Cert.NormOIdeal.main_arg2)), ?_, ?_⟩
  · refine (θ_run Cert.NormOIdeal.defs _ _).mono (fun r h c => ?_) (Cert.NormOIdeal.Odd.run_main m g)
    exact ⟨((h c).1 3).trans (Cert.NormOIdeal.Mathematics.final3 m c), ((h c).1 4).trans (Cert.NormOIdeal.Mathematics.final4 m c),
      ((h c).1 5).trans (Cert.NormOIdeal.Mathematics.final5 m c), Cert.NormOIdeal.Odd.args_of m r h c⟩
  · refine (θ_run Cert.NormORefIdeal.defs _ _).mono (fun r h c => ?_) (Cert.NormORefIdeal.Value.run (F := Ideal) m' g')
    obtain ⟨q, k, v, args⟩ := h c
    have e0 := (hagree c).1
    have e1 := (hagree c).2.1
    have e2 := (hagree c).2.2
    refine ⟨(q.trans (Cert.NormORefIdeal.Read.val_main_v19_eq ..)).trans ?_, (k.trans (Cert.NormORefIdeal.Read.val_main_v17_eq ..)).trans ?_,
      (v.trans (Cert.NormORefIdeal.Read.val_main_v18_eq ..)).trans ?_, args⟩
    · exact e0 ▸ e1 ▸ e2 ▸ rfl
    · exact e0 ▸ e1 ▸ e2 ▸ rfl
    · exact e0 ▸ e1 ▸ e2 ▸ rfl

theorem frame_proj_even_ref : Cert.quiescent_ProjERefIdeal := fun m ρ _ =>
  (θ_run Cert.ProjERefIdeal.defs _ _).mono (fun r h => ⟨fun c => (h c).2, sem_eq_zero_of_no_sems (by decide) r.2⟩)
    (Cert.ProjERefIdeal.Value.run (F := Ideal) m ρ)

theorem algebraic_proj_even : Cert.algebraic_ProjEIdeal_ProjERefIdeal := by
  pair_intro
  · run_from Cert.ProjEIdeal.Gen.run_main m g
  · run_from Cert.ProjERefIdeal.Value.run m' g'
    exact (Cert.ProjEIdeal.Mathematics.final m _).symm

theorem frame_proj_odd_ref : Cert.quiescent_ProjORefIdeal := fun m ρ _ =>
  (θ_run Cert.ProjORefIdeal.defs _ _).mono (fun r h => ⟨fun c => (h c).2, sem_eq_zero_of_no_sems (by decide) r.2⟩)
    (Cert.ProjORefIdeal.Value.run (F := Ideal) m ρ)

theorem algebraic_proj_odd : Cert.algebraic_ProjOIdeal_ProjORefIdeal := by
  pair_intro
  · run_from Cert.ProjOIdeal.Gen.run_main m g
  · run_from Cert.ProjORefIdeal.Value.run m' g'
    exact (Cert.ProjOIdeal.Mathematics.final m _).symm

theorem claim : Cert.Claim := ⟨Cert.Ffn.Gen.facts, Cert.FfnIdeal.Gen.facts, Cert.FfnRefIdeal.Gen.facts,
  Cert.Moe.Gen.facts, Cert.MoeIdeal.Gen.facts, Cert.MoeRefIdeal.Gen.facts,
  Cert.Norm.Gen.facts, Cert.NormIdeal.Gen.facts, Cert.NormRefIdeal.Gen.facts,
  Cert.NormO.Gen.facts, Cert.NormOIdeal.Gen.facts, Cert.NormORefIdeal.Gen.facts,
  Cert.ProjE.Gen.facts, Cert.ProjEIdeal.Gen.facts, Cert.ProjERefIdeal.Gen.facts, Cert.ProjO.Gen.facts, Cert.ProjOIdeal.Gen.facts, Cert.ProjORefIdeal.Gen.facts,
  Cert.Pre_routed.Gen.facts, Cert.On_used_rows.Gen.facts,
  fun m ρ _ => Cert.Ffn.Gen.frame m ρ,
  fun m ρ _ => Cert.FfnIdeal.Gen.frame m ρ,
  frame_ffn_ref,
  frame_moe,
  frame_moe_ideal,
  frame_moe_ref,
  fun m ρ _ => frame_moe_ref m ρ trivial,
  fun m ρ _ => Cert.NormIdeal.Even.frame_bits (F := Bits) m ρ,
  fun m ρ _ => Cert.NormIdeal.Even.frame (F := Ideal) m ρ,
  frame_norm_ref,
  fun m ρ _ => Cert.NormOIdeal.Odd.frame_bits (F := Bits) m ρ,
  fun m ρ _ => Cert.NormOIdeal.Odd.frame (F := Ideal) m ρ,
  frame_norm_odd_ref,
  fun m ρ _ => Cert.ProjE.Gen.frame m ρ,
  fun m ρ _ => Cert.ProjEIdeal.Gen.frame m ρ,
  frame_proj_even_ref,
  fun m ρ _ => Cert.ProjO.Gen.frame m ρ,
  fun m ρ _ => Cert.ProjOIdeal.Gen.frame m ρ,
  frame_proj_odd_ref,
  trivial,
  algebraic_ffn,
  trivial,
  algebraic_moe,
  trivial,
  algebraic_norm,
  trivial,
  algebraic_norm_odd,
  trivial,
  algebraic_proj_even,
  trivial,
  algebraic_proj_odd⟩

end Cert.Proof

end
